-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)) (v6 : (c : Dev Cert.Kernel3Ideal.nD) → Buf (Elt Ideal) ((c.tc : Thread Cert.Kernel3Ideal.nD Cert.Kernel3Ideal.τ).loc Cert.Kernel3Ideal.main_v10_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_v10_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_v37) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4096x1024 : Shape := ⟨3, ![4, 4096, 1024]⟩
abbrev S1x1024 : Shape := ⟨2, ![1, 1024]⟩
abbrev S1x1024x8200 : Shape := ⟨3, ![1, 1024, 8200]⟩
abbrev S1x4x2048 : Shape := ⟨3, ![1, 4, 2048]⟩
abbrev S1x2048 : Shape := ⟨2, ![1, 2048]⟩
abbrev S1x4 : Shape := ⟨2, ![1, 4]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S16384x1024 : Shape := ⟨2, ![16384, 1024]⟩
abbrev S1024x8200 : Shape := ⟨2, ![1024, 8200]⟩
abbrev S1024x4096 : Shape := ⟨2, ![1024, 4096]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1024x1024 : Shape := ⟨2, ![1024, 1024]⟩
abbrev S4 : Shape := ⟨1, ![4]⟩
abbrev S8 : Shape := ⟨1, ![8]⟩
abbrev S8x1 : Shape := ⟨2, ![8, 1]⟩
abbrev S1024 : Shape := ⟨1, ![1024]⟩
abbrev S4x2048 : Shape := ⟨2, ![4, 2048]⟩
abbrev S2048 : Shape := ⟨1, ![2048]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S528x2048 : Shape := ⟨2, ![528, 2048]⟩
abbrev S4x256x256 : Shape := ⟨3, ![4, 256, 256]⟩
abbrev S8x256 : Shape := ⟨2, ![8, 256]⟩
abbrev S8x128 : Shape := ⟨2, ![8, 128]⟩
abbrev S8x2048 : Shape := ⟨2, ![8, 2048]⟩
abbrev S512 : Shape := ⟨1, ![512]⟩
abbrev S512x1 : Shape := ⟨2, ![512, 1]⟩
abbrev S512x128 : Shape := ⟨2, ![512, 128]⟩
abbrev S8x512 : Shape := ⟨2, ![8, 512]⟩
abbrev S128x512 : Shape := ⟨2, ![128, 512]⟩
abbrev S96x512 : Shape := ⟨2, ![96, 512]⟩
abbrev S512x512 : Shape := ⟨2, ![512, 512]⟩
abbrev S1024x512 : Shape := ⟨2, ![1024, 512]⟩
abbrev S1x512 : Shape := ⟨2, ![1, 512]⟩
abbrev S512x256 : Shape := ⟨2, ![512, 256]⟩
abbrev S1x1 : Shape := ⟨2, ![1, 1]⟩
abbrev S1x256x256 : Shape := ⟨3, ![1, 256, 256]⟩
abbrev S256x256 : Shape := ⟨2, ![256, 256]⟩
abbrev S1x256 : Shape := ⟨2, ![1, 256]⟩
abbrev S256x512 : Shape := ⟨2, ![256, 512]⟩
abbrev S256 : Shape := ⟨1, ![256]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S256x1024 : Shape := ⟨2, ![256, 1024]⟩

abbrev nBuf : Space → Nat
  | .hbm => 45
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x8200, .f32⟩
  | .hbm, ⟨3, _⟩ => ⟨S1x4x2048, .f32⟩
  | .hbm, ⟨4, _⟩ => ⟨S1x2048, .f32⟩
  | .hbm, ⟨5, _⟩ => ⟨S1x4, .f32⟩
  | .hbm, ⟨6, _⟩ => ⟨S1x4, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x4x128x128, .f32⟩
  | .hbm, ⟨11, _⟩ => ⟨S1x4x128, .f32⟩
  | .hbm, ⟨12, _⟩ => ⟨S1x1024x1024, .f32⟩
  | .hbm, ⟨13, _⟩ => ⟨S16384x1024, .f32⟩
  | .hbm, ⟨14, _⟩ => ⟨S1024x8200, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S1024x8, .f32⟩
  | .hbm, ⟨20, _⟩ => ⟨S_, .f32⟩
  | .hbm, ⟨21, _⟩ => ⟨S1024x120, .f32⟩
  | .hbm, ⟨22, _⟩ => ⟨S1024x128, .f32⟩
  | .hbm, ⟨23, _⟩ => ⟨S1024x128, .bf16⟩
  | .hbm, ⟨24, _⟩ => ⟨S1024x1024, .f32⟩
  | .hbm, ⟨25, _⟩ => ⟨S1024x1024, .bf16⟩
  | .hbm, ⟨26, _⟩ => ⟨S4, .f32⟩
  | .hbm, ⟨27, _⟩ => ⟨S4, .f32⟩
  | .hbm, ⟨28, _⟩ => ⟨S8, .f32⟩
  | .hbm, ⟨29, _⟩ => ⟨S8x1, .f32⟩
  | .hbm, ⟨30, _⟩ => ⟨S1024, .f32⟩
  | .hbm, ⟨31, _⟩ => ⟨S1x1024, .f32⟩
  | .hbm, ⟨32, _⟩ => ⟨S4x2048, .f32⟩
  | .hbm, ⟨33, _⟩ => ⟨S2048, .f32⟩
  | .hbm, ⟨34, _⟩ => ⟨S1x2048, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S4x128x128, .f32⟩
  | .hbm, ⟨42, _⟩ => ⟨S4x128, .f32⟩
  | .hbm, ⟨43, _⟩ => ⟨S128x4, .f32⟩
  | .hbm, ⟨44, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S1024x128, .bf16⟩
  | .local _ .vmem, ⟨6, _⟩ => ⟨S4x2048, .f32⟩
  | .local _ .vmem, ⟨7, _⟩ => ⟨S1x2048, .f32⟩
  | .local _ .vmem, ⟨8, _⟩ => ⟨S8x1, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S4x128x128, .f32⟩
  | .local _ .vmem, ⟨13, _⟩ => ⟨S128x4, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S528x2048, .f32⟩
  | .local _ .vmem, ⟨18, _⟩ => ⟨S4x256x256, .f32⟩
  | .local _ .vmem, ⟨19, _⟩ => ⟨S8x256, .f32⟩
  | .local _ .vmem, ⟨20, _⟩ => ⟨S8x128, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4x4096x1024 : Shape := ⟨3, ![4, 4096, 1024]⟩
abbrev S1x1024 : Shape := ⟨2, ![1, 1024]⟩
abbrev S1x1024x8200 : Shape := ⟨3, ![1, 1024, 8200]⟩
abbrev S1x4x2048 : Shape := ⟨3, ![1, 4, 2048]⟩
abbrev S1x2048 : Shape := ⟨2, ![1, 2048]⟩
abbrev S1x4 : Shape := ⟨2, ![1, 4]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x8200 : Shape := ⟨2, ![1024, 8200]⟩
abbrev S4x4096x8200 : Shape := ⟨3, ![4, 4096, 8200]⟩
abbrev S4x4096x4 : Shape := ⟨3, ![4, 4096, 4]⟩
abbrev S4x4096x2048 : Shape := ⟨3, ![4, 4096, 2048]⟩
abbrev S4x2048 : Shape := ⟨2, ![4, 2048]⟩
abbrev S2048 : Shape := ⟨1, ![2048]⟩
abbrev S4 : Shape := ⟨1, ![4]⟩
abbrev S4x4099x2048 : Shape := ⟨3, ![4, 4099, 2048]⟩
abbrev S1x1x2048 : Shape := ⟨3, ![1, 1, 2048]⟩
abbrev S1x1x4 : Shape := ⟨3, ![1, 1, 4]⟩
abbrev S4x4x4096 : Shape := ⟨3, ![4, 4, 4096]⟩
abbrev S4x4096x4x256 : Shape := ⟨4, ![4, 4096, 4, 256]⟩
abbrev S4x4x4096x256 : Shape := ⟨4, ![4, 4, 4096, 256]⟩
abbrev S64x64 : Shape := ⟨2, ![64, 64]⟩
abbrev S4x4x256x256 : Shape := ⟨4, ![4, 4, 256, 256]⟩
abbrev S4x4x256 : Shape := ⟨3, ![4, 4, 256]⟩
abbrev S4x4 : Shape := ⟨2, ![4, 4]⟩
abbrev S4x4x64x64x256 : Shape := ⟨5, ![4, 4, 64, 64, 256]⟩
abbrev S64x4x4x64x256 : Shape := ⟨5, ![64, 4, 4, 64, 256]⟩
abbrev S4x4x64x64 : Shape := ⟨4, ![4, 4, 64, 64]⟩
abbrev S64x4x4x64 : Shape := ⟨4, ![64, 4, 4, 64]⟩
abbrev S1x4x4x64x256 : Shape := ⟨5, ![1, 4, 4, 64, 256]⟩
abbrev S4x4x64x256 : Shape := ⟨4, ![4, 4, 64, 256]⟩
abbrev S1x4x4x64 : Shape := ⟨4, ![1, 4, 4, 64]⟩
abbrev S4x4x64 : Shape := ⟨3, ![4, 4, 64]⟩
abbrev S4x4x1 : Shape := ⟨3, ![4, 4, 1]⟩
abbrev S4x4x64x1 : Shape := ⟨4, ![4, 4, 64, 1]⟩
abbrev S4x4x1x64 : Shape := ⟨4, ![4, 4, 1, 64]⟩
abbrev S4x4x1x1 : Shape := ⟨4, ![4, 4, 1, 1]⟩
abbrev S4x4x4096x1 : Shape := ⟨4, ![4, 4, 4096, 1]⟩
abbrev S4x128x128 : Shape := ⟨3, ![4, 128, 128]⟩
abbrev S4x128 : Shape := ⟨2, ![4, 128]⟩
abbrev S4x32x128x4x256 : Shape := ⟨5, ![4, 32, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x4x32x256x128 : Shape := ⟨5, ![4, 4, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1024x1024 : Shape := ⟨2, ![1024, 1024]⟩
abbrev S16384x1024 : Shape := ⟨2, ![16384, 1024]⟩

abbrev nBuf : Space → Nat
  | .hbm => 422
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x8200, .f32⟩
  | 3 => ⟨S1x4x2048, .f32⟩
  | 4 => ⟨S1x2048, .f32⟩
  | 5 => ⟨S1x4, .f32⟩
  | 6 => ⟨S1x4, .f32⟩
  | 7 => ⟨S1x1024, .f32⟩
  | 8 => ⟨S1x1024, .f32⟩
  | 9 => ⟨S1x1024, .f32⟩
  | 10 => ⟨S1x4x128x128, .f32⟩
  | 11 => ⟨S1x4x128, .f32⟩
  | 12 => ⟨S1x1024x1024, .f32⟩
  | 13 => ⟨S1024, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S1024x8200, .f32⟩
  | 31 => ⟨S4x4096x8200, .f32⟩
  | 32 => ⟨S4x4096x1024, .f32⟩
  | 33 => ⟨S4x4096x1024, .f32⟩
  | 34 => ⟨S4x4096x1024, .f32⟩
  | 35 => ⟨S4x4096x1024, .f32⟩
  | 36 => ⟨S4x4096x4, .f32⟩
  | 37 => ⟨S4x4096x4, .f32⟩
  | 38 => ⟨S4x4096x2048, .f32⟩
  | 39 => ⟨S4x4096x1024, .f32⟩
  | 40 => ⟨S4x4096x1024, .f32⟩
  | 41 => ⟨S4x2048, .f32⟩
  | 42 => ⟨S2048, .f32⟩
  | 43 => ⟨S4, .f32⟩
  | 44 => ⟨S4, .f32⟩
  | 45 => ⟨S1024, .f32⟩
  | 46 => ⟨S4x4096x2048, .f32⟩
  | 47 => ⟨S_, .i32⟩
  | 48 => ⟨S_, .f32⟩
  | 49 => ⟨S4x4099x2048, .f32⟩
  | 50 => ⟨S4x4096x2048, .f32⟩
  | 51 => ⟨S1x2048, .f32⟩
  | 52 => ⟨S2048, .f32⟩
  | 53 => ⟨S1x1x2048, .f32⟩
  | 54 => ⟨S4x4096x2048, .f32⟩
  | 55 => ⟨S4x4096x2048, .f32⟩
  | 56 => ⟨S4x4096x2048, .f32⟩
  | 57 => ⟨S1x2048, .f32⟩
  | 58 => ⟨S2048, .f32⟩
  | 59 => ⟨S1x1x2048, .f32⟩
  | 60 => ⟨S4x4096x2048, .f32⟩
  | 61 => ⟨S4x4096x2048, .f32⟩
  | 62 => ⟨S4x4096x2048, .f32⟩
  | 63 => ⟨S4x4096x2048, .f32⟩
  | 64 => ⟨S1x2048, .f32⟩
  | 65 => ⟨S2048, .f32⟩
  | 66 => ⟨S1x1x2048, .f32⟩
  | 67 => ⟨S4x4096x2048, .f32⟩
  | 68 => ⟨S4x4096x2048, .f32⟩
  | 69 => ⟨S4x4096x2048, .f32⟩
  | 70 => ⟨S4x4096x2048, .f32⟩
  | 71 => ⟨S1x2048, .f32⟩
  | 72 => ⟨S2048, .f32⟩
  | 73 => ⟨S1x1x2048, .f32⟩
  | 74 => ⟨S4x4096x2048, .f32⟩
  | 75 => ⟨S4x4096x2048, .f32⟩
  | 76 => ⟨S4x4096x2048, .f32⟩
  | 77 => ⟨S1x1x2048, .f32⟩
  | 78 => ⟨S4x4096x2048, .f32⟩
  | 79 => ⟨S4x4096x2048, .f32⟩
  | 80 => ⟨S4x4096x2048, .f32⟩
  | 81 => ⟨S4x4096x2048, .f32⟩
  | 82 => ⟨S_, .f32⟩
  | 83 => ⟨S4x4096x2048, .f32⟩
  | 84 => ⟨S4x4096x2048, .f32⟩
  | 85 => ⟨S_, .f32⟩
  | 86 => ⟨S4x4096x2048, .f32⟩
  | 87 => ⟨S4x4096x2048, .f32⟩
  | 88 => ⟨S4x4096x2048, .f32⟩
  | 89 => ⟨S4x4096x1024, .f32⟩
  | 90 => ⟨S4x4096x1024, .f32⟩
  | 91 => ⟨S1x1x4, .f32⟩
  | 92 => ⟨S4x4096x4, .f32⟩
  | 93 => ⟨S4x4096x4, .f32⟩
  | 94 => ⟨S4x4x4096, .f32⟩
  | 95 => ⟨S1x1x4, .f32⟩
  | 96 => ⟨S4x4096x4, .f32⟩
  | 97 => ⟨S4x4096x4, .f32⟩
  | 98 => ⟨S4x4096x4, .f32⟩
  | 99 => ⟨S_, .f32⟩
  | 100 => ⟨S4x4096x4, .f32⟩
  | 101 => ⟨S4x4096x4, .f32⟩
  | 102 => ⟨S4x4096x4, .f32⟩
  | 103 => ⟨S4x4096x4, .f32⟩
  | 104 => ⟨S4x4096x4, .i1⟩
  | 105 => ⟨S4x4096x4, .f32⟩
  | 106 => ⟨S4x4096x4, .f32⟩
  | 107 => ⟨S4x4096x4, .f32⟩
  | 108 => ⟨S4x4096x4, .f32⟩
  | 109 => ⟨S4x4096x4, .f32⟩
  | 110 => ⟨S4x4096x4, .f32⟩
  | 111 => ⟨S4x4096x4, .f32⟩
  | 112 => ⟨S4x4096x4, .f32⟩
  | 113 => ⟨S4x4096x4, .f32⟩
  | 114 => ⟨S4x4x4096, .f32⟩
  | 115 => ⟨S4x4096x4x256, .f32⟩
  | 116 => ⟨S4x4x4096x256, .f32⟩
  | 117 => ⟨S4x4096x4x256, .f32⟩
  | 118 => ⟨S4x4x4096x256, .f32⟩
  | 119 => ⟨S_, .f32⟩
  | 120 => ⟨S4x4x4096x256, .f32⟩
  | 121 => ⟨S4x4x4096x256, .f32⟩
  | 122 => ⟨S4x4096x4x256, .f32⟩
  | 123 => ⟨S4x4x4096x256, .f32⟩
  | 124 => ⟨S_, .i1⟩
  | 125 => ⟨S64x64, .i1⟩
  | 126 => ⟨S64x64, .i32⟩
  | 127 => ⟨S_, .i32⟩
  | _ => ⟨S4x4096x1024, .f32⟩

abbrev hbmTy0_1 (i : Nat) : BufTy := match i % 128 with
  | 0 => ⟨S64x64, .i32⟩
  | 1 => ⟨S64x64, .i32⟩
  | 2 => ⟨S64x64, .i32⟩
  | 3 => ⟨S64x64, .i1⟩
  | 4 => ⟨S_, .i1⟩
  | 5 => ⟨S64x64, .i1⟩
  | 6 => ⟨S64x64, .i1⟩
  | 7 => ⟨S_, .f32⟩
  | 8 => ⟨S4x4x256x256, .f32⟩
  | 9 => ⟨S_, .f32⟩
  | 10 => ⟨S4x4x256, .f32⟩
  | 11 => ⟨S_, .f32⟩
  | 12 => ⟨S4x4, .f32⟩
  | 13 => ⟨S4x4x64x64x256, .f32⟩
  | 14 => ⟨S64x4x4x64x256, .f32⟩
  | 15 => ⟨S4x4x64x64x256, .f32⟩
  | 16 => ⟨S64x4x4x64x256, .f32⟩
  | 17 => ⟨S4x4x64x64x256, .f32⟩
  | 18 => ⟨S64x4x4x64x256, .f32⟩
  | 19 => ⟨S4x4x64x64, .f32⟩
  | 20 => ⟨S64x4x4x64, .f32⟩
  | 21 => ⟨S4x4x64x64, .f32⟩
  | 22 => ⟨S64x4x4x64, .f32⟩
  | 23 => ⟨S_, .f32⟩
  | 24 => ⟨S64x4x4x64x256, .f32⟩
  | 25 => ⟨S_, .i32⟩
  | 26 => ⟨S64x4x4x64x256, .f32⟩
  | 27 => ⟨S64x4x4x64x256, .f32⟩
  | 28 => ⟨S64x4x4x64x256, .f32⟩
  | 29 => ⟨S64x4x4x64, .f32⟩
  | 30 => ⟨S64x4x4x64, .f32⟩
  | 31 => ⟨S64x64, .i1⟩
  | 32 => ⟨S_, .i32⟩
  | 33 => ⟨S4x4x256x256, .f32⟩
  | 34 => ⟨S4x4x256, .f32⟩
  | 35 => ⟨S4x4, .f32⟩
  | 36 => ⟨S64x4x4x64x256, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S1x4x4x64x256, .f32⟩
  | 44 => ⟨S4x4x64x256, .f32⟩
  | 45 => ⟨S_, .i32⟩
  | 46 => ⟨S_, .i32⟩
  | 47 => ⟨S_, .i32⟩
  | 48 => ⟨S_, .i32⟩
  | 49 => ⟨S1x4x4x64x256, .f32⟩
  | 50 => ⟨S4x4x64x256, .f32⟩
  | 51 => ⟨S_, .i32⟩
  | 52 => ⟨S_, .i32⟩
  | 53 => ⟨S_, .i32⟩
  | 54 => ⟨S_, .i32⟩
  | 55 => ⟨S1x4x4x64x256, .f32⟩
  | 56 => ⟨S4x4x64x256, .f32⟩
  | 57 => ⟨S_, .i32⟩
  | 58 => ⟨S_, .i32⟩
  | 59 => ⟨S_, .i32⟩
  | 60 => ⟨S1x4x4x64, .f32⟩
  | 61 => ⟨S4x4x64, .f32⟩
  | 62 => ⟨S_, .i32⟩
  | 63 => ⟨S_, .i32⟩
  | 64 => ⟨S_, .i32⟩
  | 65 => ⟨S1x4x4x64, .f32⟩
  | 66 => ⟨S4x4x64, .f32⟩
  | 67 => ⟨S_, .f32⟩
  | 68 => ⟨S_, .f32⟩
  | 69 => ⟨S4x4x64, .f32⟩
  | 70 => ⟨S4x4x1, .f32⟩
  | 71 => ⟨S4x4x64, .f32⟩
  | 72 => ⟨S4x4x64, .f32⟩
  | 73 => ⟨S4x4x64x1, .f32⟩
  | 74 => ⟨S4x4x1x64, .f32⟩
  | 75 => ⟨S4x4x64x64, .f32⟩
  | 76 => ⟨S4x4x64x64, .f32⟩
  | 77 => ⟨S4x4x64x64, .f32⟩
  | 78 => ⟨S4x4x1x64, .f32⟩
  | 79 => ⟨S4x4x64x64, .f32⟩
  | 80 => ⟨S4x4x64x64, .f32⟩
  | 81 => ⟨S_, .f32⟩
  | 82 => ⟨S_, .f32⟩
  | 83 => ⟨S4x4x64x64, .i1⟩
  | 84 => ⟨S4x4x64x64, .f32⟩
  | 85 => ⟨S4x4x64x64, .f32⟩
  | 86 => ⟨S_, .f32⟩
  | 87 => ⟨S4x4x64, .f32⟩
  | 88 => ⟨S4x4x64, .f32⟩
  | 89 => ⟨S4x4x64, .f32⟩
  | 90 => ⟨S4x4x64, .f32⟩
  | 91 => ⟨S4x4x64x64, .f32⟩
  | 92 => ⟨S4x4x64x1, .f32⟩
  | 93 => ⟨S4x4x64x64, .f32⟩
  | 94 => ⟨S4x4x64x64, .f32⟩
  | 95 => ⟨S4x4x64x64, .f32⟩
  | 96 => ⟨S4x4x64x64, .f32⟩
  | 97 => ⟨S4x4x64x1, .f32⟩
  | 98 => ⟨S4x4x64x256, .f32⟩
  | 99 => ⟨S4x4x64x256, .f32⟩
  | 100 => ⟨S4x4x64x256, .f32⟩
  | 101 => ⟨S4x4x64x256, .f32⟩
  | 102 => ⟨S4x4x64x256, .f32⟩
  | 103 => ⟨S4x4x64, .f32⟩
  | 104 => ⟨S4x4x64, .f32⟩
  | 105 => ⟨S_, .f32⟩
  | 106 => ⟨S4x4x64, .f32⟩
  | 107 => ⟨S4x4x64, .f32⟩
  | 108 => ⟨S4x4x64, .f32⟩
  | 109 => ⟨S4x4x64, .f32⟩
  | 110 => ⟨S4x4x64, .f32⟩
  | 111 => ⟨S4x4x64, .f32⟩
  | 112 => ⟨S4x4x64x1, .f32⟩
  | 113 => ⟨S4x4x64x256, .f32⟩
  | 114 => ⟨S4x4x64x256, .f32⟩
  | 115 => ⟨S4x4x1, .f32⟩
  | 116 => ⟨S4x4, .f32⟩
  | 117 => ⟨S4x4x1, .f32⟩
  | 118 => ⟨S4x4x64, .f32⟩
  | 119 => ⟨S4x4x64, .f32⟩
  | 120 => ⟨S4x4x64, .f32⟩
  | 121 => ⟨S4x4, .f32⟩
  | 122 => ⟨S_, .f32⟩
  | 123 => ⟨S4x4, .f32⟩
  | 124 => ⟨S4x4, .f32⟩
  | 125 => ⟨S4x4, .f32⟩
  | 126 => ⟨S4x4, .f32⟩
  | 127 => ⟨S4x4, .f32⟩
  | _ => ⟨S4x4096x1024, .f32⟩

abbrev hbmTy0_2 (i : Nat) : BufTy := match i % 128 with
  | 0 => ⟨S4x4x1, .f32⟩
  | 1 => ⟨S4x4x64, .f32⟩
  | 2 => ⟨S4x4x64, .f32⟩
  | 3 => ⟨S4x4x64, .f32⟩
  | 4 => ⟨S4x4x1x1, .f32⟩
  | 5 => ⟨S4x4x256x256, .f32⟩
  | 6 => ⟨S4x4x256x256, .f32⟩
  | 7 => ⟨S4x4x64x1, .f32⟩
  | 8 => ⟨S4x4x64x256, .f32⟩
  | 9 => ⟨S4x4x64x256, .f32⟩
  | 10 => ⟨S4x4x256x256, .f32⟩
  | 11 => ⟨S4x4x256x256, .f32⟩
  | 12 => ⟨S4x4x1, .f32⟩
  | 13 => ⟨S4x4x256, .f32⟩
  | 14 => ⟨S4x4x256, .f32⟩
  | 15 => ⟨S4x4x256, .f32⟩
  | 16 => ⟨S4x4x256, .f32⟩
  | 17 => ⟨S1x4x4x64x256, .f32⟩
  | 18 => ⟨S_, .i32⟩
  | 19 => ⟨S_, .i32⟩
  | 20 => ⟨S_, .i32⟩
  | 21 => ⟨S_, .i32⟩
  | 22 => ⟨S64x4x4x64x256, .f32⟩
  | 23 => ⟨S_, .i32⟩
  | 24 => ⟨S_, .i32⟩
  | 25 => ⟨S4x4x64x64x256, .f32⟩
  | 26 => ⟨S4x4x4096x256, .f32⟩
  | 27 => ⟨S_, .f32⟩
  | 28 => ⟨S4x4x4096, .f32⟩
  | 29 => ⟨S4x4x4096x1, .f32⟩
  | 30 => ⟨S_, .f32⟩
  | 31 => ⟨S4x4x4096x1, .f32⟩
  | 32 => ⟨S4x4x4096x1, .f32⟩
  | 33 => ⟨S4x4x4096x256, .f32⟩
  | 34 => ⟨S4x4x4096x256, .f32⟩
  | 35 => ⟨S4x4x4096x256, .f32⟩
  | 36 => ⟨S_, .f32⟩
  | 37 => ⟨S4x4x4096, .f32⟩
  | 38 => ⟨S4x4x4096x1, .f32⟩
  | 39 => ⟨S_, .f32⟩
  | 40 => ⟨S4x4x4096x1, .f32⟩
  | 41 => ⟨S4x4x4096x1, .f32⟩
  | 42 => ⟨S_, .f32⟩
  | 43 => ⟨S4x4x4096x1, .f32⟩
  | 44 => ⟨S4x4x4096x1, .f32⟩
  | 45 => ⟨S4x4x4096x1, .f32⟩
  | 46 => ⟨S4x4x4096x256, .f32⟩
  | 47 => ⟨S4x4x4096x256, .f32⟩
  | 48 => ⟨S4x4096x4x256, .f32⟩
  | 49 => ⟨S4x4096x1024, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S_, .f32⟩
  | 56 => ⟨S4x4096x1024, .f32⟩
  | 57 => ⟨S4x4096x1024, .f32⟩
  | 58 => ⟨S4x4096x1024, .f32⟩
  | 59 => ⟨S1x1x1024, .f32⟩
  | 60 => ⟨S4x4096x1024, .f32⟩
  | 61 => ⟨S4x4096x1024, .f32⟩
  | 62 => ⟨S1024, .f32⟩
  | 63 => ⟨S1024, .f32⟩
  | 64 => ⟨S4x128x128, .f32⟩
  | 65 => ⟨S4x128, .f32⟩
  | 66 => ⟨S_, .f32⟩
  | 67 => ⟨S4x4096x2048, .f32⟩
  | 68 => ⟨S4x4096x2048, .f32⟩
  | 69 => ⟨S4x4096x2048, .f32⟩
  | 70 => ⟨S_, .f32⟩
  | 71 => ⟨S4x4096x2048, .f32⟩
  | 72 => ⟨S4x4096x2048, .f32⟩
  | 73 => ⟨S4x4096x2048, .f32⟩
  | 74 => ⟨S4x4096x2048, .f32⟩
  | 75 => ⟨S4x4096x1024, .f32⟩
  | 76 => ⟨S4x4096x1024, .f32⟩
  | 77 => ⟨S_, .f32⟩
  | 78 => ⟨S4x4096, .f32⟩
  | 79 => ⟨S4x4096x1, .f32⟩
  | 80 => ⟨S_, .f32⟩
  | 81 => ⟨S4x4096x1, .f32⟩
  | 82 => ⟨S4x4096x1, .f32⟩
  | 83 => ⟨S4x4096x1024, .f32⟩
  | 84 => ⟨S4x4096x1024, .f32⟩
  | 85 => ⟨S4x4096x1024, .f32⟩
  | 86 => ⟨S_, .f32⟩
  | 87 => ⟨S4x4096, .f32⟩
  | 88 => ⟨S4x4096x1, .f32⟩
  | 89 => ⟨S_, .f32⟩
  | 90 => ⟨S4x4096x1, .f32⟩
  | 91 => ⟨S4x4096x1, .f32⟩
  | 92 => ⟨S_, .f32⟩
  | 93 => ⟨S4x4096x1, .f32⟩
  | 94 => ⟨S4x4096x1, .f32⟩
  | 95 => ⟨S4x4096x1, .f32⟩
  | 96 => ⟨S4x4096x1024, .f32⟩
  | 97 => ⟨S4x4096x1024, .f32⟩
  | 98 => ⟨S1x1x1024, .f32⟩
  | 99 => ⟨S4x4096x1024, .f32⟩
  | 100 => ⟨S4x4096x1024, .f32⟩
  | 101 => ⟨S1x1x1024, .f32⟩
  | 102 => ⟨S4x4096x1024, .f32⟩
  | 103 => ⟨S4x4096x1024, .f32⟩
  | 104 => ⟨S4x32x128x4x256, .f32⟩
  | 105 => ⟨S128, .i32⟩
  | 106 => ⟨S_, .i32⟩
  | 107 => ⟨S_, .i32⟩
  | 108 => ⟨S128, .i32⟩
  | 109 => ⟨S128, .i32⟩
  | 110 => ⟨S128, .i32⟩
  | 111 => ⟨S_, .i32⟩
  | 112 => ⟨S128, .i32⟩
  | 113 => ⟨S128, .i1⟩
  | 114 => ⟨S128, .i32⟩
  | 115 => ⟨S128, .i32⟩
  | 116 => ⟨S_, .i32⟩
  | 117 => ⟨S128, .i32⟩
  | 118 => ⟨S128, .i1⟩
  | 119 => ⟨S128, .i1⟩
  | 120 => ⟨S_, .i32⟩
  | 121 => ⟨S128, .i32⟩
  | 122 => ⟨S128, .i32⟩
  | 123 => ⟨S128, .i32⟩
  | 124 => ⟨S128x1, .i32⟩
  | 125 => ⟨S1x128, .i32⟩
  | 126 => ⟨S128x128, .i32⟩
  | 127 => ⟨S128x128, .i32⟩
  | _ => ⟨S4x4096x1024, .f32⟩

abbrev hbmTy0_3 (i : Nat) : BufTy := match i % 128 with
  | 0 => ⟨S128x128, .i1⟩
  | 1 => ⟨S_, .f32⟩
  | 2 => ⟨S_, .f32⟩
  | 3 => ⟨S4x128x128, .i1⟩
  | 4 => ⟨S4x128x128, .f32⟩
  | 5 => ⟨S4x128x128, .f32⟩
  | 6 => ⟨S4x4x32x256x128, .f32⟩
  | 7 => ⟨S4x32x128x4x256, .f32⟩
  | 8 => ⟨S128x4, .f32⟩
  | 9 => ⟨S128x4x1, .f32⟩
  | 10 => ⟨S1x1x128x4x1, .f32⟩
  | 11 => ⟨S4x32x128x4x256, .f32⟩
  | 12 => ⟨S4x32x128x4x256, .f32⟩
  | 13 => ⟨S4x4096x1024, .f32⟩
  | 14 => ⟨S4x4096x1024, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S_, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x4096x1024, .f32⟩
  | 26 => ⟨S_, .f32⟩
  | 27 => ⟨S4x4096x1024, .f32⟩
  | 28 => ⟨S4x4096x1024, .f32⟩
  | 29 => ⟨S_, .f32⟩
  | 30 => ⟨S4x4096x1024, .f32⟩
  | 31 => ⟨S4x4096x1024, .f32⟩
  | 32 => ⟨S4x4096x1024, .f32⟩
  | 33 => ⟨S4x4096x1024, .f32⟩
  | 34 => ⟨S1024x1024, .f32⟩
  | 35 => ⟨S4x4096x1024, .f32⟩
  | 36 => ⟨S4x4096x1024, .f32⟩
  | 37 => ⟨S16384x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call2_v0 : Ref sig .tc := ⟨.hbm, 98, rfl⟩
abbrev main_call2_call0_cst : Ref sig .tc := ⟨.hbm, 99, rfl⟩
abbrev main_call2_call0_v0 : Ref sig .tc := ⟨.hbm, 100, rfl⟩
abbrev main_call2_call0_v1 : Ref sig .tc := ⟨.hbm, 101, rfl⟩
abbrev main_call2_call0_v2 : Ref sig .tc := ⟨.hbm, 102, rfl⟩
abbrev main_call2_call0_v3 : Ref sig .tc := ⟨.hbm, 103, rfl⟩
abbrev main_call2_call0_v4 : Ref sig .tc := ⟨.hbm, 104, rfl⟩
abbrev main_call2_call0_v5 : Ref sig .tc := ⟨.hbm, 105, rfl⟩
abbrev main_call2_call0_v6 : Ref sig .tc := ⟨.hbm, 106, rfl⟩
abbrev main_call2_call0_v7 : Ref sig .tc := ⟨.hbm, 107, rfl⟩
abbrev main_call2_call0_v8 : Ref sig .tc := ⟨.hbm, 108, rfl⟩
abbrev main_call2_call0_v9 : Ref sig .tc := ⟨.hbm, 109, rfl⟩
abbrev main_call2_call0_v10 : Ref sig .tc := ⟨.hbm, 110, rfl⟩
abbrev main_call2_call0_v11 : Ref sig .tc := ⟨.hbm, 111, rfl⟩
abbrev main_call2_v1 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_2 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_3 : Ref sig .tc := ⟨.hbm, 124, rfl⟩
abbrev main_v82 : Ref sig .tc := ⟨.hbm, 125, rfl⟩
abbrev main_call3_v0 : Ref sig .tc := ⟨.hbm, 126, rfl⟩
abbrev main_call3_c : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_c_0 : Ref sig .tc := ⟨.hbm, 132, rfl⟩
abbrev main_call3_v5 : Ref sig .tc := ⟨.hbm, 133, rfl⟩
abbrev main_v83 : Ref sig .tc := ⟨.hbm, 134, rfl⟩
abbrev main_cst_4 : Ref sig .tc := ⟨.hbm, 135, rfl⟩
abbrev main_v84 : Ref sig .tc := ⟨.hbm, 136, rfl⟩
abbrev main_cst_5 : Ref sig .tc := ⟨.hbm, 137, rfl⟩
abbrev main_v85 : Ref sig .tc := ⟨.hbm, 138, rfl⟩
abbrev main_cst_6 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_7 : Ref sig .tc := ⟨.hbm, 151, rfl⟩
abbrev main_v97 : Ref sig .tc := ⟨.hbm, 152, rfl⟩
abbrev main_c_8 : Ref sig .tc := ⟨.hbm, 153, rfl⟩
abbrev main_v98_0 : Ref sig .tc := ⟨.hbm, 154, rfl⟩
abbrev main_v98_1 : Ref sig .tc := ⟨.hbm, 155, rfl⟩
abbrev main_v98_2 : Ref sig .tc := ⟨.hbm, 156, rfl⟩
abbrev main_v98_3 : Ref sig .tc := ⟨.hbm, 157, rfl⟩
abbrev main_v98_4 : Ref sig .tc := ⟨.hbm, 158, rfl⟩
abbrev main_v98_5 : Ref sig .tc := ⟨.hbm, 159, rfl⟩
abbrev main_v98_6 : Ref sig .tc := ⟨.hbm, 160, rfl⟩
abbrev main_v98_7 : Ref sig .tc := ⟨.hbm, 161, rfl⟩
abbrev main_v98_8 : Ref sig .tc := ⟨.hbm, 162, rfl⟩
abbrev main_v98_9 : Ref sig .tc := ⟨.hbm, 163, rfl⟩
abbrev main_v98_10 : Ref sig .tc := ⟨.hbm, 164, rfl⟩
abbrev main_while0c_c_39 : Ref sig .tc := ⟨.hbm, 165, rfl⟩
abbrev main_while0c_v201 : Ref sig .tc := ⟨.hbm, 166, rfl⟩
abbrev main_while0b_call4_c : Ref sig .tc := ⟨.hbm, 167, rfl⟩
abbrev main_while0b_call4_c_0 : Ref sig .tc := ⟨.hbm, 168, rfl⟩
abbrev main_while0b_call4_c_1 : Ref sig .tc := ⟨.hbm, 169, rfl⟩
abbrev main_while0b_call4_c_2 : Ref sig .tc := ⟨.hbm, 170, rfl⟩
abbrev main_while0b_call4_v0 : Ref sig .tc := ⟨.hbm, 171, rfl⟩
abbrev main_while0b_v201 : Ref sig .tc := ⟨.hbm, 172, rfl⟩
abbrev main_while0b_call5_c : Ref sig .tc := ⟨.hbm, 173, rfl⟩
abbrev main_while0b_call5_c_0 : Ref sig .tc := ⟨.hbm, 174, rfl⟩
abbrev main_while0b_call5_c_1 : Ref sig .tc := ⟨.hbm, 175, rfl⟩
abbrev main_while0b_call5_c_2 : Ref sig .tc := ⟨.hbm, 176, rfl⟩
abbrev main_while0b_call5_v0 : Ref sig .tc := ⟨.hbm, 177, rfl⟩
abbrev main_while0b_v202 : Ref sig .tc := ⟨.hbm, 178, rfl⟩
abbrev main_while0b_call6_c : Ref sig .tc := ⟨.hbm, 179, rfl⟩
abbrev main_while0b_call6_c_0 : Ref sig .tc := ⟨.hbm, 180, rfl⟩
abbrev main_while0b_call6_c_1 : Ref sig .tc := ⟨.hbm, 181, rfl⟩
abbrev main_while0b_call6_c_2 : Ref sig .tc := ⟨.hbm, 182, rfl⟩
abbrev main_while0b_call6_v0 : Ref sig .tc := ⟨.hbm, 183, rfl⟩
abbrev main_while0b_v203 : Ref sig .tc := ⟨.hbm, 184, rfl⟩
abbrev main_while0b_call7_c : Ref sig .tc := ⟨.hbm, 185, rfl⟩
abbrev main_while0b_call7_c_0 : Ref sig .tc := ⟨.hbm, 186, rfl⟩
abbrev main_while0b_call7_c_1 : Ref sig .tc := ⟨.hbm, 187, rfl⟩
abbrev main_while0b_call7_v0 : Ref sig .tc := ⟨.hbm, 188, rfl⟩
abbrev main_while0b_v204 : Ref sig .tc := ⟨.hbm, 189, rfl⟩
abbrev main_while0b_call8_c : Ref sig .tc := ⟨.hbm, 190, rfl⟩
abbrev main_while0b_call8_c_0 : Ref sig .tc := ⟨.hbm, 191, rfl⟩
abbrev main_while0b_call8_c_1 : Ref sig .tc := ⟨.hbm, 192, rfl⟩
abbrev main_while0b_call8_v0 : Ref sig .tc := ⟨.hbm, 193, rfl⟩
abbrev main_while0b_v205 : Ref sig .tc := ⟨.hbm, 194, rfl⟩
abbrev main_while0b_call9_call0_cst : Ref sig .tc := ⟨.hbm, 195, rfl⟩
abbrev main_while0b_call9_call0_v0 : Ref sig .tc := ⟨.hbm, 196, rfl⟩
abbrev main_while0b_v206 : Ref sig .tc := ⟨.hbm, 197, rfl⟩
abbrev main_while0b_v207 : Ref sig .tc := ⟨.hbm, 198, rfl⟩
abbrev main_while0b_v208 : Ref sig .tc := ⟨.hbm, 199, rfl⟩
abbrev main_while0b_v209 : Ref sig .tc := ⟨.hbm, 200, rfl⟩
abbrev main_while0b_v210 : Ref sig .tc := ⟨.hbm, 201, rfl⟩
abbrev main_while0b_v211 : Ref sig .tc := ⟨.hbm, 202, rfl⟩
abbrev main_while0b_v212 : Ref sig .tc := ⟨.hbm, 203, rfl⟩
abbrev main_while0b_v213 : Ref sig .tc := ⟨.hbm, 204, rfl⟩
abbrev main_while0b_v214 : Ref sig .tc := ⟨.hbm, 205, rfl⟩
abbrev main_while0b_v215 : Ref sig .tc := ⟨.hbm, 206, rfl⟩
abbrev main_while0b_v216 : Ref sig .tc := ⟨.hbm, 207, rfl⟩
abbrev main_while0b_v217 : Ref sig .tc := ⟨.hbm, 208, rfl⟩
abbrev main_while0b_cst_39 : Ref sig .tc := ⟨.hbm, 209, rfl⟩
abbrev main_while0b_call10_v0 : Ref sig .tc := ⟨.hbm, 210, rfl⟩
abbrev main_while0b_call10_v1 : Ref sig .tc := ⟨.hbm, 211, rfl⟩
abbrev main_while0b_call10_v2 : Ref sig .tc := ⟨.hbm, 212, rfl⟩
abbrev main_while0b_v218 : Ref sig .tc := ⟨.hbm, 213, rfl⟩
abbrev main_while0b_cst_40 : Ref sig .tc := ⟨.hbm, 214, rfl⟩
abbrev main_while0b_v219 : Ref sig .tc := ⟨.hbm, 215, rfl⟩
abbrev main_while0b_v220 : Ref sig .tc := ⟨.hbm, 216, rfl⟩
abbrev main_while0b_v221 : Ref sig .tc := ⟨.hbm, 217, rfl⟩
abbrev main_while0b_v222 : Ref sig .tc := ⟨.hbm, 218, rfl⟩
abbrev main_while0b_v223 : Ref sig .tc := ⟨.hbm, 219, rfl⟩
abbrev main_while0b_v224 : Ref sig .tc := ⟨.hbm, 220, rfl⟩
abbrev main_while0b_v225 : Ref sig .tc := ⟨.hbm, 221, rfl⟩
abbrev main_while0b_v226 : Ref sig .tc := ⟨.hbm, 222, rfl⟩
abbrev main_while0b_v227 : Ref sig .tc := ⟨.hbm, 223, rfl⟩
abbrev main_while0b_v228 : Ref sig .tc := ⟨.hbm, 224, rfl⟩
abbrev main_while0b_v229 : Ref sig .tc := ⟨.hbm, 225, rfl⟩
abbrev main_while0b_v230 : Ref sig .tc := ⟨.hbm, 226, rfl⟩
abbrev main_while0b_v231 : Ref sig .tc := ⟨.hbm, 227, rfl⟩
abbrev main_while0b_v232 : Ref sig .tc := ⟨.hbm, 228, rfl⟩
abbrev main_while0b_v233 : Ref sig .tc := ⟨.hbm, 229, rfl⟩
abbrev main_while0b_v234 : Ref sig .tc := ⟨.hbm, 230, rfl⟩
abbrev main_while0b_v235 : Ref sig .tc := ⟨.hbm, 231, rfl⟩
abbrev main_while0b_v236 : Ref sig .tc := ⟨.hbm, 232, rfl⟩
abbrev main_while0b_cst_41 : Ref sig .tc := ⟨.hbm, 233, rfl⟩
abbrev main_while0b_v237 : Ref sig .tc := ⟨.hbm, 234, rfl⟩
abbrev main_while0b_v238 : Ref sig .tc := ⟨.hbm, 235, rfl⟩
abbrev main_while0b_v239 : Ref sig .tc := ⟨.hbm, 236, rfl⟩
abbrev main_while0b_v240 : Ref sig .tc := ⟨.hbm, 237, rfl⟩
abbrev main_while0b_v241 : Ref sig .tc := ⟨.hbm, 238, rfl⟩
abbrev main_while0b_v242 : Ref sig .tc := ⟨.hbm, 239, rfl⟩
abbrev main_while0b_v243 : Ref sig .tc := ⟨.hbm, 240, rfl⟩
abbrev main_while0b_v244 : Ref sig .tc := ⟨.hbm, 241, rfl⟩
abbrev main_while0b_v245 : Ref sig .tc := ⟨.hbm, 242, rfl⟩
abbrev main_while0b_v246 : Ref sig .tc := ⟨.hbm, 243, rfl⟩
abbrev main_while0b_v247 : Ref sig .tc := ⟨.hbm, 244, rfl⟩
abbrev main_while0b_v248 : Ref sig .tc := ⟨.hbm, 245, rfl⟩
abbrev main_while0b_v249 : Ref sig .tc := ⟨.hbm, 246, rfl⟩
abbrev main_while0b_v250 : Ref sig .tc := ⟨.hbm, 247, rfl⟩
abbrev main_while0b_v251 : Ref sig .tc := ⟨.hbm, 248, rfl⟩
abbrev main_while0b_v252 : Ref sig .tc := ⟨.hbm, 249, rfl⟩
abbrev main_while0b_cst_42 : Ref sig .tc := ⟨.hbm, 250, rfl⟩
abbrev main_while0b_v253 : Ref sig .tc := ⟨.hbm, 251, rfl⟩
abbrev main_while0b_v254 : Ref sig .tc := ⟨.hbm, 252, rfl⟩
abbrev main_while0b_v255 : Ref sig .tc := ⟨.hbm, 253, rfl⟩
abbrev main_while0b_v256 : Ref sig .tc := ⟨.hbm, 254, rfl⟩
abbrev main_while0b_v257 : Ref sig .tc := ⟨.hbm, 255, rfl⟩
abbrev main_while0b_v258 : Ref sig .tc := ⟨.hbm, 256, rfl⟩
abbrev main_while0b_v259 : Ref sig .tc := ⟨.hbm, 257, rfl⟩
abbrev main_while0b_v260 : Ref sig .tc := ⟨.hbm, 258, rfl⟩
abbrev main_while0b_v261 : Ref sig .tc := ⟨.hbm, 259, rfl⟩
abbrev main_while0b_v262 : Ref sig .tc := ⟨.hbm, 260, rfl⟩
abbrev main_while0b_v263 : Ref sig .tc := ⟨.hbm, 261, rfl⟩
abbrev main_while0b_v264 : Ref sig .tc := ⟨.hbm, 262, rfl⟩
abbrev main_while0b_v265 : Ref sig .tc := ⟨.hbm, 263, rfl⟩
abbrev main_while0b_v266 : Ref sig .tc := ⟨.hbm, 264, rfl⟩
abbrev main_while0b_v267 : Ref sig .tc := ⟨.hbm, 265, rfl⟩
abbrev main_while0b_v268 : Ref sig .tc := ⟨.hbm, 266, rfl⟩
abbrev main_while0b_v269 : Ref sig .tc := ⟨.hbm, 267, rfl⟩
abbrev main_while0b_v270 : Ref sig .tc := ⟨.hbm, 268, rfl⟩
abbrev main_while0b_v271 : Ref sig .tc := ⟨.hbm, 269, rfl⟩
abbrev main_while0b_v272 : Ref sig .tc := ⟨.hbm, 270, rfl⟩
abbrev main_while0b_v273 : Ref sig .tc := ⟨.hbm, 271, rfl⟩
abbrev main_while0b_v274 : Ref sig .tc := ⟨.hbm, 272, rfl⟩
abbrev main_while0b_call11_v0 : Ref sig .tc := ⟨.hbm, 273, rfl⟩
abbrev main_while0b_call11_c : Ref sig .tc := ⟨.hbm, 274, rfl⟩
abbrev main_while0b_call11_c_0 : Ref sig .tc := ⟨.hbm, 275, rfl⟩
abbrev main_while0b_call11_c_1 : Ref sig .tc := ⟨.hbm, 276, rfl⟩
abbrev main_while0b_call11_c_2 : Ref sig .tc := ⟨.hbm, 277, rfl⟩
abbrev main_while0b_v275 : Ref sig .tc := ⟨.hbm, 278, rfl⟩
abbrev main_while0b_c_43 : Ref sig .tc := ⟨.hbm, 279, rfl⟩
abbrev main_while0b_v276 : Ref sig .tc := ⟨.hbm, 280, rfl⟩
abbrev main_v99 : Ref sig .tc := ⟨.hbm, 281, rfl⟩
abbrev main_v100 : Ref sig .tc := ⟨.hbm, 282, rfl⟩
abbrev main_cst_9 : Ref sig .tc := ⟨.hbm, 283, rfl⟩
abbrev main_v101 : Ref sig .tc := ⟨.hbm, 284, rfl⟩
abbrev main_v102 : Ref sig .tc := ⟨.hbm, 285, rfl⟩
abbrev main_cst_10 : Ref sig .tc := ⟨.hbm, 286, rfl⟩
abbrev main_v103 : Ref sig .tc := ⟨.hbm, 287, rfl⟩
abbrev main_v104 : Ref sig .tc := ⟨.hbm, 288, rfl⟩
abbrev main_v105 : Ref sig .tc := ⟨.hbm, 289, rfl⟩
abbrev main_v106 : Ref sig .tc := ⟨.hbm, 290, rfl⟩
abbrev main_v107 : Ref sig .tc := ⟨.hbm, 291, rfl⟩
abbrev main_cst_11 : Ref sig .tc := ⟨.hbm, 292, rfl⟩
abbrev main_v108 : Ref sig .tc := ⟨.hbm, 293, rfl⟩
abbrev main_v109 : Ref sig .tc := ⟨.hbm, 294, rfl⟩
abbrev main_cst_12 : Ref sig .tc := ⟨.hbm, 295, rfl⟩
abbrev main_v110 : Ref sig .tc := ⟨.hbm, 296, rfl⟩
abbrev main_v111 : Ref sig .tc := ⟨.hbm, 297, rfl⟩
abbrev main_cst_13 : Ref sig .tc := ⟨.hbm, 298, rfl⟩
abbrev main_v112 : Ref sig .tc := ⟨.hbm, 299, rfl⟩
abbrev main_v113 : Ref sig .tc := ⟨.hbm, 300, rfl⟩
abbrev main_v114 : Ref sig .tc := ⟨.hbm, 301, rfl⟩
abbrev main_v115 : Ref sig .tc := ⟨.hbm, 302, rfl⟩
abbrev main_v116 : Ref sig .tc := ⟨.hbm, 303, rfl⟩
abbrev main_v117 : Ref sig .tc := ⟨.hbm, 304, rfl⟩
abbrev main_v118 : Ref sig .tc := ⟨.hbm, 305, rfl⟩
abbrev main_v119 : Ref sig .tc := ⟨.hbm, 306, rfl⟩
abbrev main_v120 : Ref sig .tc := ⟨.hbm, 307, rfl⟩
abbrev main_cst_14 : Ref sig .tc := ⟨.hbm, 308, rfl⟩
abbrev main_v121 : Ref sig .tc := ⟨.hbm, 309, rfl⟩
abbrev main_v122 : Ref sig .tc := ⟨.hbm, 310, rfl⟩
abbrev main_cst_15 : Ref sig .tc := ⟨.hbm, 311, rfl⟩
abbrev main_v123 : Ref sig .tc := ⟨.hbm, 312, rfl⟩
abbrev main_v124 : Ref sig .tc := ⟨.hbm, 313, rfl⟩
abbrev main_v125 : Ref sig .tc := ⟨.hbm, 314, rfl⟩
abbrev main_v126 : Ref sig .tc := ⟨.hbm, 315, rfl⟩
abbrev main_v127 : Ref sig .tc := ⟨.hbm, 316, rfl⟩
abbrev main_v128 : Ref sig .tc := ⟨.hbm, 317, rfl⟩
abbrev main_v129 : Ref sig .tc := ⟨.hbm, 318, rfl⟩
abbrev main_v130 : Ref sig .tc := ⟨.hbm, 319, rfl⟩
abbrev main_v131 : Ref sig .tc := ⟨.hbm, 320, rfl⟩
abbrev main_v132 : Ref sig .tc := ⟨.hbm, 321, rfl⟩
abbrev main_cst_16 : Ref sig .tc := ⟨.hbm, 322, rfl⟩
abbrev main_v133 : Ref sig .tc := ⟨.hbm, 323, rfl⟩
abbrev main_v134 : Ref sig .tc := ⟨.hbm, 324, rfl⟩
abbrev main_v135 : Ref sig .tc := ⟨.hbm, 325, rfl⟩
abbrev main_cst_17 : Ref sig .tc := ⟨.hbm, 326, rfl⟩
abbrev main_v136 : Ref sig .tc := ⟨.hbm, 327, rfl⟩
abbrev main_v137 : Ref sig .tc := ⟨.hbm, 328, rfl⟩
abbrev main_v138 : Ref sig .tc := ⟨.hbm, 329, rfl⟩
abbrev main_v139 : Ref sig .tc := ⟨.hbm, 330, rfl⟩
abbrev main_v140 : Ref sig .tc := ⟨.hbm, 331, rfl⟩
abbrev main_v141 : Ref sig .tc := ⟨.hbm, 332, rfl⟩
abbrev main_cst_18 : Ref sig .tc := ⟨.hbm, 333, rfl⟩
abbrev main_v142 : Ref sig .tc := ⟨.hbm, 334, rfl⟩
abbrev main_v143 : Ref sig .tc := ⟨.hbm, 335, rfl⟩
abbrev main_cst_19 : Ref sig .tc := ⟨.hbm, 336, rfl⟩
abbrev main_v144 : Ref sig .tc := ⟨.hbm, 337, rfl⟩
abbrev main_v145 : Ref sig .tc := ⟨.hbm, 338, rfl⟩
abbrev main_v146 : Ref sig .tc := ⟨.hbm, 339, rfl⟩
abbrev main_v147 : Ref sig .tc := ⟨.hbm, 340, rfl⟩
abbrev main_v148 : Ref sig .tc := ⟨.hbm, 341, rfl⟩
abbrev main_cst_20 : Ref sig .tc := ⟨.hbm, 342, rfl⟩
abbrev main_v149 : Ref sig .tc := ⟨.hbm, 343, rfl⟩
abbrev main_v150 : Ref sig .tc := ⟨.hbm, 344, rfl⟩
abbrev main_cst_21 : Ref sig .tc := ⟨.hbm, 345, rfl⟩
abbrev main_v151 : Ref sig .tc := ⟨.hbm, 346, rfl⟩
abbrev main_v152 : Ref sig .tc := ⟨.hbm, 347, rfl⟩
abbrev main_cst_22 : Ref sig .tc := ⟨.hbm, 348, rfl⟩
abbrev main_v153 : Ref sig .tc := ⟨.hbm, 349, rfl⟩
abbrev main_v154 : Ref sig .tc := ⟨.hbm, 350, rfl⟩
abbrev main_v155 : Ref sig .tc := ⟨.hbm, 351, rfl⟩
abbrev main_v156 : Ref sig .tc := ⟨.hbm, 352, rfl⟩
abbrev main_v157 : Ref sig .tc := ⟨.hbm, 353, rfl⟩
abbrev main_v158 : Ref sig .tc := ⟨.hbm, 354, rfl⟩
abbrev main_v159 : Ref sig .tc := ⟨.hbm, 355, rfl⟩
abbrev main_v160 : Ref sig .tc := ⟨.hbm, 356, rfl⟩
abbrev main_v161 : Ref sig .tc := ⟨.hbm, 357, rfl⟩
abbrev main_v162 : Ref sig .tc := ⟨.hbm, 358, rfl⟩
abbrev main_v163 : Ref sig .tc := ⟨.hbm, 359, rfl⟩
abbrev main_v164 : Ref sig .tc := ⟨.hbm, 360, rfl⟩
abbrev main_v165 : Ref sig .tc := ⟨.hbm, 361, rfl⟩
abbrev main_c_23 : Ref sig .tc := ⟨.hbm, 362, rfl⟩
abbrev main_call12_v0 : Ref sig .tc := ⟨.hbm, 363, rfl⟩
abbrev main_call12_v1 : Ref sig .tc := ⟨.hbm, 364, rfl⟩
abbrev main_call12_v2 : Ref sig .tc := ⟨.hbm, 365, rfl⟩
abbrev main_call12_v3 : Ref sig .tc := ⟨.hbm, 366, rfl⟩
abbrev main_call12_v4 : Ref sig .tc := ⟨.hbm, 367, rfl⟩
abbrev main_call12_v5 : Ref sig .tc := ⟨.hbm, 368, rfl⟩
abbrev main_call12_v6 : Ref sig .tc := ⟨.hbm, 369, rfl⟩
abbrev main_call12_v7 : Ref sig .tc := ⟨.hbm, 370, rfl⟩
abbrev main_call12_v8 : Ref sig .tc := ⟨.hbm, 371, rfl⟩
abbrev main_call12_c : Ref sig .tc := ⟨.hbm, 372, rfl⟩
abbrev main_call12_v9 : Ref sig .tc := ⟨.hbm, 373, rfl⟩
abbrev main_call12_v10 : Ref sig .tc := ⟨.hbm, 374, rfl⟩
abbrev main_call12_v11 : Ref sig .tc := ⟨.hbm, 375, rfl⟩
abbrev main_call12_c_0 : Ref sig .tc := ⟨.hbm, 376, rfl⟩
abbrev main_call12_v12 : Ref sig .tc := ⟨.hbm, 377, rfl⟩
abbrev main_call12_v13 : Ref sig .tc := ⟨.hbm, 378, rfl⟩
abbrev main_v166 : Ref sig .tc := ⟨.hbm, 379, rfl⟩
abbrev main_v167 : Ref sig .tc := ⟨.hbm, 380, rfl⟩
abbrev main_v168 : Ref sig .tc := ⟨.hbm, 381, rfl⟩
abbrev main_v169 : Ref sig .tc := ⟨.hbm, 382, rfl⟩
abbrev main_v170 : Ref sig .tc := ⟨.hbm, 383, rfl⟩
abbrev main_v171 : Ref sig .tc := ⟨.hbm, 384, rfl⟩
abbrev main_cst_24 : Ref sig .tc := ⟨.hbm, 385, rfl⟩
abbrev main_call13_v0 : Ref sig .tc := ⟨.hbm, 386, rfl⟩
abbrev main_call13_v1 : Ref sig .tc := ⟨.hbm, 387, rfl⟩
abbrev main_call13_v2 : Ref sig .tc := ⟨.hbm, 388, rfl⟩
abbrev main_v172 : Ref sig .tc := ⟨.hbm, 389, rfl⟩
abbrev main_v173 : Ref sig .tc := ⟨.hbm, 390, rfl⟩
abbrev main_v174 : Ref sig .tc := ⟨.hbm, 391, rfl⟩
abbrev main_v175 : Ref sig .tc := ⟨.hbm, 392, rfl⟩
abbrev main_v176 : Ref sig .tc := ⟨.hbm, 393, rfl⟩
abbrev main_v177 : Ref sig .tc := ⟨.hbm, 394, rfl⟩
abbrev main_v178 : Ref sig .tc := ⟨.hbm, 395, rfl⟩
abbrev main_v179 : Ref sig .tc := ⟨.hbm, 396, rfl⟩
abbrev main_v180 : Ref sig .tc := ⟨.hbm, 397, rfl⟩
abbrev main_v181 : Ref sig .tc := ⟨.hbm, 398, rfl⟩
abbrev main_v182 : Ref sig .tc := ⟨.hbm, 399, rfl⟩
abbrev main_v183 : Ref sig .tc := ⟨.hbm, 400, rfl⟩
abbrev main_cst_25 : Ref sig .tc := ⟨.hbm, 401, rfl⟩
abbrev main_v184 : Ref sig .tc := ⟨.hbm, 402, rfl⟩
abbrev main_v185 : Ref sig .tc := ⟨.hbm, 403, rfl⟩
abbrev main_cst_26 : Ref sig .tc := ⟨.hbm, 404, rfl⟩
abbrev main_v186 : Ref sig .tc := ⟨.hbm, 405, rfl⟩
abbrev main_v187 : Ref sig .tc := ⟨.hbm, 406, rfl⟩
abbrev main_v188 : Ref sig .tc := ⟨.hbm, 407, rfl⟩
abbrev main_v189 : Ref sig .tc := ⟨.hbm, 408, rfl⟩
abbrev main_v190 : Ref sig .tc := ⟨.hbm, 409, rfl⟩
abbrev main_cst_27 : Ref sig .tc := ⟨.hbm, 410, rfl⟩
abbrev main_v191 : Ref sig .tc := ⟨.hbm, 411, rfl⟩
abbrev main_v192 : Ref sig .tc := ⟨.hbm, 412, rfl⟩
abbrev main_cst_28 : Ref sig .tc := ⟨.hbm, 413, rfl⟩
abbrev main_v193 : Ref sig .tc := ⟨.hbm, 414, rfl⟩
abbrev main_v194 : Ref sig .tc := ⟨.hbm, 415, rfl⟩
abbrev main_v195 : Ref sig .tc := ⟨.hbm, 416, rfl⟩
abbrev main_v196 : Ref sig .tc := ⟨.hbm, 417, rfl⟩
abbrev main_v197 : Ref sig .tc := ⟨.hbm, 418, rfl⟩
abbrev main_v198 : Ref sig .tc := ⟨.hbm, 419, rfl⟩
abbrev main_v199 : Ref sig .tc := ⟨.hbm, 420, rfl⟩
abbrev main_v200 : Ref sig .tc := ⟨.hbm, 421, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S16384x1024 : Shape := ⟨2, ![16384, 1024]⟩
abbrev S1024x5632 : Shape := ⟨2, ![1024, 5632]⟩
abbrev S2816x1024 : Shape := ⟨2, ![2816, 1024]⟩
abbrev S1024x1024 : Shape := ⟨2, ![1024, 1024]⟩
abbrev S1024x2816 : Shape := ⟨2, ![1024, 2816]⟩
abbrev S1024x1 : Shape := ⟨2, ![1024, 1]⟩
abbrev S1024x256 : Shape := ⟨2, ![1024, 256]⟩

abbrev nBuf : Space → Nat
  | .hbm => 14
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S1024, .f32⟩
  | .hbm, ⟨12, _⟩ => ⟨S1x1024, .f32⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1024x5632, .f32⟩
  | .hbm, ⟨23, _⟩ => ⟨S2816x1024, .f32⟩
  | .hbm, ⟨24, _⟩ => ⟨S4x4096x5632, .f32⟩
  | .hbm, ⟨25, _⟩ => ⟨S4x4096x2816, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S_, .f32⟩
  | .hbm, ⟨30, _⟩ => ⟨S4x4096x2816, .f32⟩
  | .hbm, ⟨31, _⟩ => ⟨S4x4096x2816, .f32⟩
  | .hbm, ⟨32, _⟩ => ⟨S_, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x8200 : Shape := ⟨3, ![1, 1024, 8200]⟩
abbrev S1x1024x1024 : Shape := ⟨3, ![1, 1024, 1024]⟩
abbrev S1024 : Shape := ⟨1, ![1024]⟩
abbrev S16384x1024 : Shape := ⟨2, ![16384, 1024]⟩
abbrev S1024x5632 : Shape := ⟨2, ![1024, 5632]⟩
abbrev S2816x1024 : Shape := ⟨2, ![2816, 1024]⟩
abbrev S1x8200x1024 : Shape := ⟨3, ![1, 8200, 1024]⟩
abbrev S1024x1024 : Shape := ⟨2, ![1024, 1024]⟩
abbrev S1024x4096 : Shape := ⟨2, ![1024, 4096]⟩
abbrev S1024x128 : Shape := ⟨2, ![1024, 128]⟩
abbrev S512x1024 : Shape := ⟨2, ![512, 1024]⟩
abbrev S1x128x1024 : Shape := ⟨3, ![1, 128, 1024]⟩
abbrev S1x8x1024 : Shape := ⟨3, ![1, 8, 1024]⟩
abbrev S32x1024 : Shape := ⟨2, ![32, 1024]⟩
abbrev S32x5632 : Shape := ⟨2, ![32, 5632]⟩
abbrev S176x1024 : Shape := ⟨2, ![176, 1024]⟩
abbrev S512x2816 : Shape := ⟨2, ![512, 2816]⟩
abbrev S128x1024 : Shape := ⟨2, ![128, 1024]⟩
abbrev S1x120x1024 : Shape := ⟨3, ![1, 120, 1024]⟩
abbrev S120x1024 : Shape := ⟨2, ![120, 1024]⟩
abbrev S8x1024 : Shape := ⟨2, ![8, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 26
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024x8200, .f32⟩
  | .hbm, ⟨5, _⟩ => ⟨S1x1024x1024, .f32⟩
  | .hbm, ⟨6, _⟩ => ⟨S1x1024x5632, .f32⟩
  | .hbm, ⟨7, _⟩ => ⟨S1x2816x1024, .f32⟩
  | .hbm, ⟨8, _⟩ => ⟨S1024, .f32⟩
  | .hbm, ⟨9, _⟩ => ⟨S16384x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024x5632, .f32⟩
  | .hbm, ⟨14, _⟩ => ⟨S2816x1024, .f32⟩
  | .hbm, ⟨15, _⟩ => ⟨S1x8200x1024, .f32⟩
  | .hbm, ⟨16, _⟩ => ⟨S1024x1024, .f32⟩
  | .hbm, ⟨17, _⟩ => ⟨S1024x5632, .f32⟩
  | .hbm, ⟨18, _⟩ => ⟨S2816x1024, .f32⟩
  | .hbm, ⟨19, _⟩ => ⟨S16384x1024, .f32⟩
  | .hbm, ⟨20, _⟩ => ⟨S1024x4096, .bf16⟩
  | .hbm, ⟨21, _⟩ => ⟨S1024x4096, .bf16⟩
  | .hbm, ⟨22, _⟩ => ⟨S1024x128, .bf16⟩
  | .hbm, ⟨23, _⟩ => ⟨S1024x1024, .bf16⟩
  | .hbm, ⟨24, _⟩ => ⟨S1024x5632, .bf16⟩
  | .hbm, ⟨25, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .f32⟩
  | .local _ .vmem, ⟨4, _⟩ => ⟨S2816x1024, .f32⟩
  | .local _ .vmem, ⟨5, _⟩ => ⟨S1x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x8x1024, .f32⟩
  | .local _ .vmem, ⟨13, _⟩ => ⟨S32x1024, .f32⟩
  | .local _ .vmem, ⟨14, _⟩ => ⟨S32x1024, .f32⟩
  | .local _ .vmem, ⟨15, _⟩ => ⟨S32x5632, .f32⟩
  | .local _ .vmem, ⟨16, _⟩ => ⟨S32x5632, .f32⟩
  | .local _ .vmem, ⟨17, _⟩ => ⟨S176x1024, .f32⟩
  | .local _ .vmem, ⟨18, _⟩ => ⟨S176x1024, .f32⟩
  | .local _ .vmem, ⟨19, _⟩ => ⟨S512x1024, .f32⟩
  | .local _ .vmem, ⟨20, _⟩ => ⟨S512x1024, .f32⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .bf16⟩
  | .local _ .vmem, ⟨26, _⟩ => ⟨S32x1024, .bf16⟩
  | .local _ .vmem, ⟨27, _⟩ => ⟨S32x1024, .bf16⟩
  | .local _ .vmem, ⟨28, _⟩ => ⟨S32x5632, .bf16⟩
  | .local _ .vmem, ⟨29, _⟩ => ⟨S32x5632, .bf16⟩
  | .local _ .vmem, ⟨30, _⟩ => ⟨S176x1024, .bf16⟩
  | .local _ .vmem, ⟨31, _⟩ => ⟨S176x1024, .bf16⟩
  | .local _ .vmem, ⟨32, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c33_i32 : BitVec 32 := 33#32
  let v0 : BitVec 32 := Scalar.addi c33_i32 arg0
  let c64_i32 : BitVec 32 := 64#32
  let v1 : BitVec 32 := Scalar.minsi v0 c64_i32
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let c0_i32 : BitVec 32 := 0#32
  let c512_i32 : BitVec 32 := 512#32
  let c0_i32_0 : BitVec 32 := 0#32
  let c0_i32_1 : BitVec 32 := 0#32
  ![c0_i32.toNat, c512_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S32x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x8200 : Shape := ⟨3, ![1, 1024, 8200]⟩
abbrev S1x1024x1024 : Shape := ⟨3, ![1, 1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S1024x8200 : Shape := ⟨2, ![1024, 8200]⟩
abbrev S1024x8 : Shape := ⟨2, ![1024, 8]⟩
abbrev S1024x128 : Shape := ⟨2, ![1024, 128]⟩
abbrev S16384x1024 : Shape := ⟨2, ![16384, 1024]⟩
abbrev S1024x4096 : Shape := ⟨2, ![1024, 4096]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024x8200, .f32⟩
  | .hbm, ⟨5, _⟩ => ⟨S1x1024x1024, .f32⟩
  | .hbm, ⟨6, _⟩ => ⟨S1x1024x5632, .f32⟩
  | .hbm, ⟨7, _⟩ => ⟨S1x2816x1024, .f32⟩
  | .hbm, ⟨8, _⟩ => ⟨S1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S1024x5632, .f32⟩
  | .hbm, ⟨27, _⟩ => ⟨S2816x1024, .f32⟩
  | .hbm, ⟨28, _⟩ => ⟨S4x4096x5632, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S_, .f32⟩
  | .hbm, ⟨34, _⟩ => ⟨S4x4096x2816, .f32⟩
  | .hbm, ⟨35, _⟩ => ⟨S4x4096x2816, .f32⟩
  | .hbm, ⟨36, _⟩ => ⟨S_, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S1024x8200, .f32⟩
  | .hbm, ⟨47, _⟩ => ⟨S1024x8200, .bf16⟩
  | .hbm, ⟨48, _⟩ => ⟨S1024x8, .bf16⟩
  | .hbm, ⟨49, _⟩ => ⟨S_, .i32⟩
  | .hbm, ⟨50, _⟩ => ⟨S_, .bf16⟩
  | .hbm, ⟨51, _⟩ => ⟨S1024x128, .bf16⟩
  | .hbm, ⟨52, _⟩ => ⟨S16384x1024, .f32⟩
  | .hbm, ⟨53, _⟩ => ⟨S1024x4096, .bf16⟩
  | .hbm, ⟨54, _⟩ => ⟨S1024x4096, .bf16⟩
  | .hbm, ⟨55, _⟩ => ⟨S1024x1024, .f32⟩
  | .hbm, ⟨56, _⟩ => ⟨S1024x1024, .bf16⟩
  | .hbm, ⟨57, _⟩ => ⟨S1024x5632, .f32⟩
  | .hbm, ⟨58, _⟩ => ⟨S1024x5632, .bf16⟩
  | .hbm, ⟨59, _⟩ => ⟨S2816x1024, .f32⟩
  | .hbm, ⟨60, _⟩ => ⟨S2816x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Proof.Tile.lean ====
module

public import proofs.«01_k».proof.Proof.Gen.KernelIdeal.Skeleton
public import proofs.«01_k».proof.Proof.Gen.KernelIdeal.Frame

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the body of this point starts a sequence: the grid coordinate is a multiple of eight. -/
abbrev fresh (i : grid0.Coords) : Prop :=
  (Scalar.cmpi .ne (Scalar.extui (Scalar.cmpi .eq (Scalar.remsi (BitVec.ofNat 32 (i 0).val) 8#32) 0#32)) 0#32) = 1#1

set_option maxHeartbeats 4000000 in
/-- One tile inside a sequence, run from the inputs and the carried state: what its stores leave in the output, in the
    convolution's rows and in the three recurrent states. -/
noncomputable def tileRun (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .bf16) (harg5 : arg5.IsWhole) (arg6 : Memref sig .tc .vmem S4x2048 .f32) (harg6 : arg6.IsWhole) (arg7 : Memref sig .tc .vmem S1x2048 .f32) (harg7 : arg7.IsWhole) (arg8 : Memref sig .tc .vmem S8x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S4x128x128 .f32) (harg12 : arg12.IsWhole) (arg13 : Memref sig .tc .vmem S128x4 .f32) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S528x2048 .f32) (harg16 : arg16.IsWhole) (arg17 : Memref sig .tc .vmem S4x256x256 .f32) (harg17 : arg17.IsWhole) (arg18 : Memref sig .tc .vmem S8x256 .f32) (harg18 : arg18.IsWhole) (arg19 : Memref sig .tc .vmem S8x128 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S512x1024 .bf16) (harg27 : arg27.IsWhole) (hc0 : ¬fresh i)
    (x0 : Vec F S512x1024 .f32) (x1 : Vec F S1x1024 .f32) (x2 : Vec F S1024x4096 .bf16) (x3 : Vec F S1024x4096 .bf16) (x4 : Vec F S1024x128 .bf16) (x5 : Vec F S4x2048 .f32) (x6 : Vec F S1x2048 .f32) (x7 : Vec F S8x1 .f32) (x8 : Vec F S1x1024 .f32) (x9 : Vec F S1x1024 .f32) (x10 : Vec F S1x1024 .f32) (x11 : Vec F S4x128x128 .f32) (x12 : Vec F S128x4 .f32) (x13 : Vec F S1024x1024 .bf16)
    (s0 : Vec F S528x2048 .f32) (s1 : Vec F S4x256x256 .f32) (s2 : Vec F S8x256 .f32) (s3 : Vec F S8x128 .f32) :
    Σ' (LO : List (View.Piece (Elt F) S512x1024 .f32)), Σ' (L0 : List (View.Piece (Elt F) S528x2048 .f32)), Σ' (L1 : List (View.Piece (Elt F) S4x256x256 .f32)), Σ' (L2 : List (View.Piece (Elt F) S8x256 .f32)), { L3 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare s0 ∗ owns (c : Thread nD τ) arg17 fullShare s1 ∗ owns (c : Thread nD τ) arg18 fullShare s2 ∗ owns (c : Thread nD τ) arg19 fullShare s3 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f LO) ∗ (arg16.view.loc (c : Thread nD τ) ↦[arg16.view.set]{fullShare} arg16.view.writes (Elt F) (harg16.unread s0) L0) ∗ (arg17.view.loc (c : Thread nD τ) ↦[arg17.view.set]{fullShare} arg17.view.writes (Elt F) (harg17.unread s1) L1) ∗ (arg18.view.loc (c : Thread nD τ) ↦[arg18.view.set]{fullShare} arg18.view.writes (Elt F) (harg18.unread s2) L2) ∗ (arg19.view.loc (c : Thread nD τ) ↦[arg19.view.set]{fullShare} arg19.view.writes (Elt F) (harg19.unread s3) L3) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K => ?run⟩
  case run =>
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0; obtain rfl := harg17.eq_unread hfs1; obtain rfl := harg18.eq_unread hfs2; obtain rfl := harg19.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [HS0]; · iexact HS0
    isplitl [HS1]; · iexact HS1
    isplitl [HS2]; · iexact HS2
    isplitl [HS3]; · iexact HS3
    isplitl [HS4]; · iexists _; iexists _; isplitr; swap; (· iexact HS4); ipureintro; rfl
    isplitl [HS5]; · iexists _; iexists _; isplitr; swap; (· iexact HS5); ipureintro; rfl
    isplitl [HS6]; · iexists _; iexists _; isplitr; swap; (· iexact HS6); ipureintro; rfl
    isplitl [HS7]; · iexists _; iexists _; isplitr; swap; (· iexact HS7); ipureintro; rfl
    isplitl [HS8]; · iexists _; iexists _; isplitr; swap; (· iexact HS8); ipureintro; rfl
    isplitl [HS9]; · iexists _; iexists _; isplitr; swap; (· iexact HS9); ipureintro; rfl
    isplitl [HS10]; · iexists _; iexists _; isplitr; swap; (· iexact HS10); ipureintro; rfl
    iexists _; iexists _; isplitr; swap; (· iexact HS11); ipureintro; rfl

end Cert.Mixer

end
-- ==== Proof.Reset.lean ====
module

public import proofs.«01_k».proof.Proof.Gen.KernelIdeal.Skeleton
public import proofs.«01_k».proof.Proof.Tile

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point inside a sequence. -/
def inner : grid0.Coords := grid0.coords ⟨1, by decide⟩

theorem inner_not_fresh : ¬fresh inner := by decide +kernel

/-- A point starts a sequence exactly when its index is a multiple of eight. -/
theorem fresh_iff : ∀ t : Fin cfg0.N, fresh (grid0.coords t) ↔ t.val % 8 = 0 := by decide +kernel

/-- The stores that start a sequence. -/
def restart (arg16 : Memref sig .tc .vmem S528x2048 .f32) (arg17 : Memref sig .tc .vmem S4x256x256 .f32) (arg18 : Memref sig .tc .vmem S8x256 .f32) (arg19 : Memref sig .tc .vmem S8x128 .f32) :
    Prog (TpuEff nD τ sig (Elt F) Λ₀ .tc) PUnit := do
  let _ : Vec F S8x2048 .f32 ← Prog.lift (.load arg16 (Rect.unit (s := S528x2048) ![0, 0] S8x2048.size inb_S528x2048_S8x2048_0_0).toLoadRect (View.loadsAt_vmem h_S8x2048))
  Prog.lift (.store arg16 (Rect.unit (s := S528x2048) ![0, 0] S8x2048.size inb_S528x2048_S8x2048_0_0) (k0_pay2 (F := F)) Finset.univ (View.stores_vmem_bits_univ h_S8x2048 rfl) (.inl rfl))
  let _ : Vec F S4x256x256 .f32 ← Prog.lift (.load arg17 (Rect.unit (s := S4x256x256) ![0, 0, 0] S4x256x256.size inb_S4x256x256_S4x256x256_0_0_0).toLoadRect (View.loadsAt_vmem h_S4x256x256))
  Prog.lift (.store arg17 (Rect.unit (s := S4x256x256) ![0, 0, 0] S4x256x256.size inb_S4x256x256_S4x256x256_0_0_0) (k0_pay3 (F := F)) Finset.univ (View.stores_vmem_bits_univ h_S4x256x256 rfl) (.inl rfl))
  let _ : Vec F S8x256 .f32 ← Prog.lift (.load arg18 (Rect.unit (s := S8x256) ![0, 0] S8x256.size inb_S8x256_S8x256_0_0).toLoadRect (View.loadsAt_vmem h_S8x256))
  Prog.lift (.store arg18 (Rect.unit (s := S8x256) ![0, 0] S8x256.size inb_S8x256_S8x256_0_0) (k0_pay4 (F := F)) Finset.univ (View.stores_vmem_bits_univ h_S8x256 rfl) (.inl rfl))
  let _ : Vec F S8x128 .f32 ← Prog.lift (.load arg19 (Rect.unit (s := S8x128) ![0, 0] S8x128.size inb_S8x128_S8x128_0_0).toLoadRect (View.loadsAt_vmem h_S8x128))
  Prog.lift (.store arg19 (Rect.unit (s := S8x128) ![0, 0] S8x128.size inb_S8x128_S8x128_0_0) (k0_pay5 (F := F)) Finset.univ (View.stores_vmem_bits_univ h_S8x128 rfl) (.inl rfl))
  pure ⟨⟩

theorem part1_fresh (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .bf16) (harg5 : arg5.IsWhole) (arg6 : Memref sig .tc .vmem S4x2048 .f32) (harg6 : arg6.IsWhole) (arg7 : Memref sig .tc .vmem S1x2048 .f32) (harg7 : arg7.IsWhole) (arg8 : Memref sig .tc .vmem S8x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S4x128x128 .f32) (harg12 : arg12.IsWhole) (arg13 : Memref sig .tc .vmem S128x4 .f32) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S528x2048 .f32) (harg16 : arg16.IsWhole) (arg17 : Memref sig .tc .vmem S4x256x256 .f32) (harg17 : arg17.IsWhole) (arg18 : Memref sig .tc .vmem S8x256 .f32) (harg18 : arg18.IsWhole) (arg19 : Memref sig .tc .vmem S8x128 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S512x1024 .bf16) (harg27 : arg27.IsWhole) (h : fresh i) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 = (restart arg16 arg17 arg18 arg19 >>= fun _ => k0_part1 (F := F) inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  simp only [k0_part1_eq_skeleton]
  unfold k0_part1_skel
  rw [dif_pos (show _ = _ from h), dif_neg (show ¬(_ = _) from inner_not_fresh)]
  rfl

/-- The body of a point that starts a sequence: the stores that start it, then the body of a point inside one. -/
theorem mixer_fresh (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .bf16) (harg5 : arg5.IsWhole) (arg6 : Memref sig .tc .vmem S4x2048 .f32) (harg6 : arg6.IsWhole) (arg7 : Memref sig .tc .vmem S1x2048 .f32) (harg7 : arg7.IsWhole) (arg8 : Memref sig .tc .vmem S8x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S4x128x128 .f32) (harg12 : arg12.IsWhole) (arg13 : Memref sig .tc .vmem S128x4 .f32) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S528x2048 .f32) (harg16 : arg16.IsWhole) (arg17 : Memref sig .tc .vmem S4x256x256 .f32) (harg17 : arg17.IsWhole) (arg18 : Memref sig .tc .vmem S8x256 .f32) (harg18 : arg18.IsWhole) (arg19 : Memref sig .tc .vmem S8x128 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S512x1024 .bf16) (harg27 : arg27.IsWhole) (h : fresh i) :
    cc0_mixer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 = (restart arg16 arg17 arg18 arg19 >>= fun _ => cc0_mixer (F := F) inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  rw [cc0_mixer_eq_skeleton]
  unfold cc0_mixer_skel
  rw [k0_part31_eq_skeleton]
  unfold k0_part31_skel
  rw [part1_fresh i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 h]
  rfl

end Cert.Mixer

end
-- ==== Proof.Step.lean ====
module

public import proofs.«01_k».proof.Proof.Gen.KernelIdeal.Skeleton
public import proofs.«01_k».proof.Proof.Reset

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem part1_inner (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .bf16) (harg5 : arg5.IsWhole) (arg6 : Memref sig .tc .vmem S4x2048 .f32) (harg6 : arg6.IsWhole) (arg7 : Memref sig .tc .vmem S1x2048 .f32) (harg7 : arg7.IsWhole) (arg8 : Memref sig .tc .vmem S8x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S4x128x128 .f32) (harg12 : arg12.IsWhole) (arg13 : Memref sig .tc .vmem S128x4 .f32) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S528x2048 .f32) (harg16 : arg16.IsWhole) (arg17 : Memref sig .tc .vmem S4x256x256 .f32) (harg17 : arg17.IsWhole) (arg18 : Memref sig .tc .vmem S8x256 .f32) (harg18 : arg18.IsWhole) (arg19 : Memref sig .tc .vmem S8x128 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S512x1024 .bf16) (harg27 : arg27.IsWhole) (h : ¬fresh i) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 = k0_part1 (F := F) inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 := by
  simp only [k0_part1_eq_skeleton]
  unfold k0_part1_skel
  rw [dif_neg (show ¬(_ = _) from h), dif_neg (show ¬(_ = _) from inner_not_fresh)]

/-- The body of a point inside a sequence does not depend on the point. -/
theorem mixer_inner (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .bf16) (harg5 : arg5.IsWhole) (arg6 : Memref sig .tc .vmem S4x2048 .f32) (harg6 : arg6.IsWhole) (arg7 : Memref sig .tc .vmem S1x2048 .f32) (harg7 : arg7.IsWhole) (arg8 : Memref sig .tc .vmem S8x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S4x128x128 .f32) (harg12 : arg12.IsWhole) (arg13 : Memref sig .tc .vmem S128x4 .f32) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S528x2048 .f32) (harg16 : arg16.IsWhole) (arg17 : Memref sig .tc .vmem S4x256x256 .f32) (harg17 : arg17.IsWhole) (arg18 : Memref sig .tc .vmem S8x256 .f32) (harg18 : arg18.IsWhole) (arg19 : Memref sig .tc .vmem S8x128 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S512x1024 .bf16) (harg27 : arg27.IsWhole) (h : ¬fresh i) :
    cc0_mixer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 = cc0_mixer (F := F) inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 := by
  rw [cc0_mixer_eq_skeleton]
  unfold cc0_mixer_skel
  rw [k0_part31_eq_skeleton]
  unfold k0_part31_skel
  rw [part1_inner i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 h]
  rfl

/-- The stores that start a sequence, run. -/
theorem restart_run (c : Dev nD) (arg16 : Memref sig .tc .vmem S528x2048 .f32) (harg16 : arg16.IsWhole) (arg17 : Memref sig .tc .vmem S4x256x256 .f32) (harg17 : arg17.IsWhole) (arg18 : Memref sig .tc .vmem S8x256 .f32) (harg18 : arg18.IsWhole) (arg19 : Memref sig .tc .vmem S8x128 .f32) (harg19 : arg19.IsWhole)
    (s0 : Vec F S528x2048 .f32) (s1 : Vec F S4x256x256 .f32) (s2 : Vec F S8x256 .f32) (s3 : Vec F S8x128 .f32)
    (E : Set ℕ) (K : PUnit → sProp 𝕄) :
    iprop(owns (c : Thread nD τ) arg16 fullShare s0 ∗ owns (c : Thread nD τ) arg17 fullShare s1 ∗ owns (c : Thread nD τ) arg18 fullShare s2 ∗ owns (c : Thread nD τ) arg19 fullShare s3
            ∗ (iprop(owns (c : Thread nD τ) arg16 fullShare (arg16.view.read (Elt F) (arg16.view.writes (Elt F) (harg16.unread s0) [⟨Rect.unit ![0, 0] S8x2048.size inb_S528x2048_S8x2048_0_0, k0_pay2 (F := F)⟩])) ∗ owns (c : Thread nD τ) arg17 fullShare (arg17.view.read (Elt F) (arg17.view.writes (Elt F) (harg17.unread s1) [⟨Rect.unit ![0, 0, 0] S4x256x256.size inb_S4x256x256_S4x256x256_0_0_0, k0_pay3 (F := F)⟩])) ∗ owns (c : Thread nD τ) arg18 fullShare (arg18.view.read (Elt F) (arg18.view.writes (Elt F) (harg18.unread s2) [⟨Rect.unit ![0, 0] S8x256.size inb_S8x256_S8x256_0_0, k0_pay4 (F := F)⟩])) ∗ owns (c : Thread nD τ) arg19 fullShare (arg19.view.read (Elt F) (arg19.view.writes (Elt F) (harg19.unread s3) [⟨Rect.unit ![0, 0] S8x128.size inb_S8x128_S8x128_0_0, k0_pay5 (F := F)⟩]))) -∗ K ⟨⟩))
          ⊢ wp frame (wpE (defs₀ (F := F)) Variants.none c none) E (restart (F := F) arg16 arg17 arg18 arg19) K := by
  unfold restart
  unfold owns
  iintro ⟨⟨%fs0, %hfs0, HS0⟩, ⟨%fs1, %hfs1, HS1⟩, ⟨%fs2, %hfs2, HS2⟩, ⟨%fs3, %hfs3, HS3⟩, Hk⟩
  obtain rfl := harg16.eq_unread hfs0; obtain rfl := harg17.eq_unread hfs1; obtain rfl := harg18.eq_unread hfs2; obtain rfl := harg19.eq_unread hfs3
  sl_exec
  sl_step
  iapply Hk
  isplitl [HS0]; · (iexists _; isplitr; swap; (· iexact HS0); ipureintro; rfl)
  isplitl [HS1]; · (iexists _; isplitr; swap; (· iexact HS1); ipureintro; rfl)
  isplitl [HS2]; · (iexists _; isplitr; swap; (· iexact HS2); ipureintro; rfl)
  iexists _; isplitr; swap; (· iexact HS3); ipureintro; rfl

set_option maxHeartbeats 4000000 in
/-- One tile at any point: whatever holds of what a tile leaves, from the carried state or, where a sequence starts, from
    the state its first stores make, holds after the body. -/
theorem tile_any (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .bf16) (harg5 : arg5.IsWhole) (arg6 : Memref sig .tc .vmem S4x2048 .f32) (harg6 : arg6.IsWhole) (arg7 : Memref sig .tc .vmem S1x2048 .f32) (harg7 : arg7.IsWhole) (arg8 : Memref sig .tc .vmem S8x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S4x128x128 .f32) (harg12 : arg12.IsWhole) (arg13 : Memref sig .tc .vmem S128x4 .f32) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S528x2048 .f32) (harg16 : arg16.IsWhole) (arg17 : Memref sig .tc .vmem S4x256x256 .f32) (harg17 : arg17.IsWhole) (arg18 : Memref sig .tc .vmem S8x256 .f32) (harg18 : arg18.IsWhole) (arg19 : Memref sig .tc .vmem S8x128 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S512x1024 .bf16) (harg27 : arg27.IsWhole)
    (x0 : Vec F S512x1024 .f32) (x1 : Vec F S1x1024 .f32) (x2 : Vec F S1024x4096 .bf16) (x3 : Vec F S1024x4096 .bf16) (x4 : Vec F S1024x128 .bf16) (x5 : Vec F S4x2048 .f32) (x6 : Vec F S1x2048 .f32) (x7 : Vec F S8x1 .f32) (x8 : Vec F S1x1024 .f32) (x9 : Vec F S1x1024 .f32) (x10 : Vec F S1x1024 .f32) (x11 : Vec F S4x128x128 .f32) (x12 : Vec F S128x4 .f32) (x13 : Vec F S1024x1024 .bf16)
    (s0 : Vec F S528x2048 .f32) (s1 : Vec F S4x256x256 .f32) (s2 : Vec F S8x256 .f32) (s3 : Vec F S8x128 .f32)
    (Q : Vec F S512x1024 .f32 → Vec F S528x2048 .f32 → Vec F S4x256x256 .f32 → Vec F S8x256 .f32 → Vec F S8x128 .f32 → Prop)
    (hQ : ∀ (u0 : Vec F S528x2048 .f32) (u1 : Vec F S4x256x256 .f32) (u2 : Vec F S8x256 .f32) (u3 : Vec F S8x128 .f32),
      (¬fresh i → u0 = s0 ∧ u1 = s1 ∧ u2 = s2 ∧ u3 = s3) →
      (fresh i → u0 = (arg16.view.read (Elt F) (arg16.view.writes (Elt F) (harg16.unread s0) [⟨Rect.unit ![0, 0] S8x2048.size inb_S528x2048_S8x2048_0_0, k0_pay2 (F := F)⟩])) ∧ u1 = (arg17.view.read (Elt F) (arg17.view.writes (Elt F) (harg17.unread s1) [⟨Rect.unit ![0, 0, 0] S4x256x256.size inb_S4x256x256_S4x256x256_0_0_0, k0_pay3 (F := F)⟩])) ∧ u2 = (arg18.view.read (Elt F) (arg18.view.writes (Elt F) (harg18.unread s2) [⟨Rect.unit ![0, 0] S8x256.size inb_S8x256_S8x256_0_0, k0_pay4 (F := F)⟩])) ∧ u3 = (arg19.view.read (Elt F) (arg19.view.writes (Elt F) (harg19.unread s3) [⟨Rect.unit ![0, 0] S8x128.size inb_S8x128_S8x128_0_0, k0_pay5 (F := F)⟩]))) →
      ∀ f, Q (arg15.view.read (Elt F) (arg15.view.writes (Elt F) f (tileRun (F := F) c inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 inner_not_fresh x0 x1 x2 x3 x4 x5 x6 x7 x8 x9 x10 x11 x12 x13 u0 u1 u2 u3).1)) (arg16.view.read (Elt F) (arg16.view.writes (Elt F) (harg16.unread u0) (tileRun (F := F) c inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 inner_not_fresh x0 x1 x2 x3 x4 x5 x6 x7 x8 x9 x10 x11 x12 x13 u0 u1 u2 u3).2.1)) (arg17.view.read (Elt F) (arg17.view.writes (Elt F) (harg17.unread u1) (tileRun (F := F) c inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 inner_not_fresh x0 x1 x2 x3 x4 x5 x6 x7 x8 x9 x10 x11 x12 x13 u0 u1 u2 u3).2.2.1)) (arg18.view.read (Elt F) (arg18.view.writes (Elt F) (harg18.unread u2) (tileRun (F := F) c inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 inner_not_fresh x0 x1 x2 x3 x4 x5 x6 x7 x8 x9 x10 x11 x12 x13 u0 u1 u2 u3).2.2.2.1)) (arg19.view.read (Elt F) (arg19.view.writes (Elt F) (harg19.unread u3) (tileRun (F := F) c inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 inner_not_fresh x0 x1 x2 x3 x4 x5 x6 x7 x8 x9 x10 x11 x12 x13 u0 u1 u2 u3).2.2.2.2.1)))
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare s0 ∗ owns (c : Thread nD τ) arg17 fullShare s1 ∗ owns (c : Thread nD τ) arg18 fullShare s2 ∗ owns (c : Thread nD τ) arg19 fullShare s3 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d t0 t1 t2 t3, ⌜Q d t0 t1 t2 t3⌝ ∗ owns (c : Thread nD τ) arg15 fullShare d ∗ owns (c : Thread nD τ) arg16 fullShare t0 ∗ owns (c : Thread nD τ) arg17 fullShare t1 ∗ owns (c : Thread nD τ) arg18 fullShare t2 ∗ owns (c : Thread nD τ) arg19 fullShare t3) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  by_cases h : fresh i
  · have hq := hQ (arg16.view.read (Elt F) (arg16.view.writes (Elt F) (harg16.unread s0) [⟨Rect.unit ![0, 0] S8x2048.size inb_S528x2048_S8x2048_0_0, k0_pay2 (F := F)⟩])) (arg17.view.read (Elt F) (arg17.view.writes (Elt F) (harg17.unread s1) [⟨Rect.unit ![0, 0, 0] S4x256x256.size inb_S4x256x256_S4x256x256_0_0_0, k0_pay3 (F := F)⟩])) (arg18.view.read (Elt F) (arg18.view.writes (Elt F) (harg18.unread s2) [⟨Rect.unit ![0, 0] S8x256.size inb_S8x256_S8x256_0_0, k0_pay4 (F := F)⟩])) (arg19.view.read (Elt F) (arg19.view.writes (Elt F) (harg19.unread s3) [⟨Rect.unit ![0, 0] S8x128.size inb_S8x128_S8x128_0_0, k0_pay5 (F := F)⟩])) (fun h' => absurd h h') (fun _ => ⟨rfl, rfl, rfl, rfl⟩)
    rw [mixer_fresh i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 h, wp_bind]
    iintro ⟨H0, H1, H2, H3, H4, H5, H6, H7, H8, H9, H10, H11, H12, H13, H14, HS0, HS1, HS2, HS3, HS4, HS5, HS6, HS7, HS8, HS9, HS10, HS11, Hk⟩
    iapply (restart_run c arg16 harg16 arg17 harg17 arg18 harg18 arg19 harg19 s0 s1 s2 s3 E _)
    isplitl [HS0]; · iexact HS0
    isplitl [HS1]; · iexact HS1
    isplitl [HS2]; · iexact HS2
    isplitl [HS3]; · iexact HS3
    iintro ⟨HS0, HS1, HS2, HS3⟩
    revert hq; generalize tileRun (F := F) c inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 inner_not_fresh x0 x1 x2 x3 x4 x5 x6 x7 x8 x9 x10 x11 x12 x13 (arg16.view.read (Elt F) (arg16.view.writes (Elt F) (harg16.unread s0) [⟨Rect.unit ![0, 0] S8x2048.size inb_S528x2048_S8x2048_0_0, k0_pay2 (F := F)⟩])) (arg17.view.read (Elt F) (arg17.view.writes (Elt F) (harg17.unread s1) [⟨Rect.unit ![0, 0, 0] S4x256x256.size inb_S4x256x256_S4x256x256_0_0_0, k0_pay3 (F := F)⟩])) (arg18.view.read (Elt F) (arg18.view.writes (Elt F) (harg18.unread s2) [⟨Rect.unit ![0, 0] S8x256.size inb_S8x256_S8x256_0_0, k0_pay4 (F := F)⟩])) (arg19.view.read (Elt F) (arg19.view.writes (Elt F) (harg19.unread s3) [⟨Rect.unit ![0, 0] S8x128.size inb_S8x128_S8x128_0_0, k0_pay5 (F := F)⟩])) = T; intro hq
    iapply (T.2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iintro ⟨H0, H1, H2, H3, H4, H5, H6, H7, H8, H9, H10, H11, H12, H13, ⟨%e14, H14⟩, HS0, HS1, HS2, HS3, HS4, HS5, HS6, HS7, HS8, HS9, HS10, HS11⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14 HS0 HS1 HS2 HS3]
    · iexists _, _, _, _, _
      isplitr
      · ipureintro; exact (hq e14)
      unfold owns
      isplitl [H14]; · (iexists _; isplitr; swap; (· iexact H14); ipureintro; rfl)
      isplitl [HS0]; · (iexists _; isplitr; swap; (· iexact HS0); ipureintro; rfl)
      isplitl [HS1]; · (iexists _; isplitr; swap; (· iexact HS1); ipureintro; rfl)
      isplitl [HS2]; · (iexists _; isplitr; swap; (· iexact HS2); ipureintro; rfl)
      iexists _; isplitr; swap; (· iexact HS3); ipureintro; rfl
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iexact HS11
  · have hq := hQ s0 s1 s2 s3 (fun _ => ⟨rfl, rfl, rfl, rfl⟩) (fun h' => absurd h' h)
    rw [mixer_inner i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 h]
    iintro ⟨H0, H1, H2, H3, H4, H5, H6, H7, H8, H9, H10, H11, H12, H13, H14, HS0, HS1, HS2, HS3, HS4, HS5, HS6, HS7, HS8, HS9, HS10, HS11, Hk⟩
    revert hq; generalize tileRun (F := F) c inner arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 inner_not_fresh x0 x1 x2 x3 x4 x5 x6 x7 x8 x9 x10 x11 x12 x13 s0 s1 s2 s3 = T; intro hq
    iapply (T.2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iintro ⟨H0, H1, H2, H3, H4, H5, H6, H7, H8, H9, H10, H11, H12, H13, ⟨%e14, H14⟩, HS0, HS1, HS2, HS3, HS4, HS5, HS6, HS7, HS8, HS9, HS10, HS11⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14 HS0 HS1 HS2 HS3]
    · iexists _, _, _, _, _
      isplitr
      · ipureintro; exact (hq e14)
      unfold owns
      isplitl [H14]; · (iexists _; isplitr; swap; (· iexact H14); ipureintro; rfl)
      isplitl [HS0]; · (iexists _; isplitr; swap; (· iexact HS0); ipureintro; rfl)
      isplitl [HS1]; · (iexists _; isplitr; swap; (· iexact HS1); ipureintro; rfl)
      isplitl [HS2]; · (iexists _; isplitr; swap; (· iexact HS2); ipureintro; rfl)
      iexists _; isplitr; swap; (· iexact HS3); ipureintro; rfl
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iexact HS11

end Cert.Mixer

end
-- ==== Proof.Frames.lean ====
module

public import proofs.«01_k».proof.Proof.Gen.KernelIdeal.Skeleton
public import proofs.«01_k».proof.Proof.Step
public import proofs.«01_k».proof.Proof.Gen.KernelIdeal.Frame

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x4 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .f32 := win0_14.stage (cfg0.slots t 14)
abbrev hs0_14 (t : Fin cfg0.N) : (ms0_14 t).IsWhole := hstage0_14 ((cfg0.slots t 14).cast nbuf0_14)
abbrev scM0_0 : Memref sig .tc .vmem S528x2048 .f32 := Memref.whole cc0_scratch0
abbrev scM0_1 : Memref sig .tc .vmem S4x256x256 .f32 := Memref.whole cc0_scratch1
abbrev scM0_2 : Memref sig .tc .vmem S8x256 .f32 := Memref.whole cc0_scratch2
abbrev scM0_3 : Memref sig .tc .vmem S8x128 .f32 := Memref.whole cc0_scratch3
abbrev scM0_4 : Memref sig .tc .vmem S512x1024 .bf16 := Memref.whole cc0_scratch4
abbrev scM0_5 : Memref sig .tc .vmem S512x1024 .bf16 := Memref.whole cc0_scratch5
abbrev scM0_6 : Memref sig .tc .vmem S512x1024 .bf16 := Memref.whole cc0_scratch6
abbrev scM0_7 : Memref sig .tc .vmem S512x1024 .f32 := Memref.whole cc0_scratch7
abbrev scM0_8 : Memref sig .tc .vmem S512x1024 .f32 := Memref.whole cc0_scratch8
abbrev scM0_9 : Memref sig .tc .vmem S512x1024 .f32 := Memref.whole cc0_scratch9
abbrev scM0_10 : Memref sig .tc .vmem S512x1024 .bf16 := Memref.whole cc0_scratch10
abbrev scM0_11 : Memref sig .tc .vmem S512x1024 .bf16 := Memref.whole cc0_scratch11

/-- The launch's invariant with the scratch buffers named one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

/-- What is carried from tile to tile: the rows before the tile, and the three running states of the heads. -/
abbrev Carried := ℕ → Vec F S528x2048 .f32 → Vec F S4x256x256 .f32 → Vec F S8x256 .f32 → Vec F S8x128 .f32 → Prop

/-- The invariant between points: the carried buffers hold a state of which `Inv` is true (inside a sequence), the other
    scratch buffers hold anything. -/
def PhiI (c : Dev nD) (Inv : Carried (F := F)) (n : ℕ) : sProp 𝕄 :=
  iprop(iprop((∃ s0 s1 s2 s3, ⌜n % 8 ≠ 0 → Inv n s0 s1 s2 s3⌝ ∗ owns (c : Thread nD τ) scM0_0 fullShare s0 ∗ owns (c : Thread nD τ) scM0_1 fullShare s1 ∗ owns (c : Thread nD τ) scM0_2 fullShare s2 ∗ owns (c : Thread nD τ) scM0_3 fullShare s3) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r))

variable (m : (ℓ : Loc nD τ sig) → Buf (Elt F) ℓ) (ρ : Dev nD → PrngReg)

/-- A tile takes a state with `Inv` at its point to one with `Inv` at the next, and leaves an output block with `Pout`. -/
def StepOK (c : Dev nD) (Pout : Fin cfg0.N → Vec F S512x1024 .f32 → Prop) (Inv : Carried (F := F)) : Prop :=
  ∀ (t : Fin cfg0.N) (s0 : Vec F S528x2048 .f32) (s1 : Vec F S4x256x256 .f32) (s2 : Vec F S8x256 .f32) (s3 : Vec F S8x128 .f32),
    (t.val % 8 ≠ 0 → Inv t.val s0 s1 s2 s3) →
    ∀ (u0 : Vec F S528x2048 .f32) (u1 : Vec F S4x256x256 .f32) (u2 : Vec F S8x256 .f32) (u3 : Vec F S8x128 .f32),
      (¬fresh (grid0.coords t) → u0 = s0 ∧ u1 = s1 ∧ u2 = s2 ∧ u3 = s3) →
      (fresh (grid0.coords t) → u0 = (scM0_0.view.read (Elt F) (scM0_0.view.writes (Elt F) ((Memref.isWhole_whole cc0_scratch0).unread s0) [⟨Rect.unit ![0, 0] S8x2048.size inb_S528x2048_S8x2048_0_0, k0_pay2 (F := F)⟩])) ∧ u1 = (scM0_1.view.read (Elt F) (scM0_1.view.writes (Elt F) ((Memref.isWhole_whole cc0_scratch1).unread s1) [⟨Rect.unit ![0, 0, 0] S4x256x256.size inb_S4x256x256_S4x256x256_0_0_0, k0_pay3 (F := F)⟩])) ∧ u2 = (scM0_2.view.read (Elt F) (scM0_2.view.writes (Elt F) ((Memref.isWhole_whole cc0_scratch2).unread s2) [⟨Rect.unit ![0, 0] S8x256.size inb_S8x256_S8x256_0_0, k0_pay4 (F := F)⟩])) ∧ u3 = (scM0_3.view.read (Elt F) (scM0_3.view.writes (Elt F) ((Memref.isWhole_whole cc0_scratch3).unread s3) [⟨Rect.unit ![0, 0] S8x128.size inb_S8x128_S8x128_0_0, k0_pay5 (F := F)⟩]))) →
      ∀ f, Pout t ((ms0_14 t).view.read (Elt F) ((ms0_14 t).view.writes (Elt F) f (tileRun (F := F) c inner (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) scM0_6 (Memref.isWhole_whole cc0_scratch6) scM0_7 (Memref.isWhole_whole cc0_scratch7) scM0_8 (Memref.isWhole_whole cc0_scratch8) scM0_9 (Memref.isWhole_whole cc0_scratch9) scM0_10 (Memref.isWhole_whole cc0_scratch10) scM0_11 (Memref.isWhole_whole cc0_scratch11) inner_not_fresh (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) u0 u1 u2 u3).1)) ∧ Inv (t.val + 1) (scM0_0.view.read (Elt F) (scM0_0.view.writes (Elt F) ((Memref.isWhole_whole cc0_scratch0).unread u0) (tileRun (F := F) c inner (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) scM0_6 (Memref.isWhole_whole cc0_scratch6) scM0_7 (Memref.isWhole_whole cc0_scratch7) scM0_8 (Memref.isWhole_whole cc0_scratch8) scM0_9 (Memref.isWhole_whole cc0_scratch9) scM0_10 (Memref.isWhole_whole cc0_scratch10) scM0_11 (Memref.isWhole_whole cc0_scratch11) inner_not_fresh (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) u0 u1 u2 u3).2.1)) (scM0_1.view.read (Elt F) (scM0_1.view.writes (Elt F) ((Memref.isWhole_whole cc0_scratch1).unread u1) (tileRun (F := F) c inner (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) scM0_6 (Memref.isWhole_whole cc0_scratch6) scM0_7 (Memref.isWhole_whole cc0_scratch7) scM0_8 (Memref.isWhole_whole cc0_scratch8) scM0_9 (Memref.isWhole_whole cc0_scratch9) scM0_10 (Memref.isWhole_whole cc0_scratch10) scM0_11 (Memref.isWhole_whole cc0_scratch11) inner_not_fresh (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) u0 u1 u2 u3).2.2.1)) (scM0_2.view.read (Elt F) (scM0_2.view.writes (Elt F) ((Memref.isWhole_whole cc0_scratch2).unread u2) (tileRun (F := F) c inner (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) scM0_6 (Memref.isWhole_whole cc0_scratch6) scM0_7 (Memref.isWhole_whole cc0_scratch7) scM0_8 (Memref.isWhole_whole cc0_scratch8) scM0_9 (Memref.isWhole_whole cc0_scratch9) scM0_10 (Memref.isWhole_whole cc0_scratch10) scM0_11 (Memref.isWhole_whole cc0_scratch11) inner_not_fresh (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) u0 u1 u2 u3).2.2.2.1)) (scM0_3.view.read (Elt F) (scM0_3.view.writes (Elt F) ((Memref.isWhole_whole cc0_scratch3).unread u3) (tileRun (F := F) c inner (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) scM0_6 (Memref.isWhole_whole cc0_scratch6) scM0_7 (Memref.isWhole_whole cc0_scratch7) scM0_8 (Memref.isWhole_whole cc0_scratch8) scM0_9 (Memref.isWhole_whole cc0_scratch9) scM0_10 (Memref.isWhole_whole cc0_scratch10) scM0_11 (Memref.isWhole_whole cc0_scratch11) inner_not_fresh (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) u0 u1 u2 u3).2.2.2.2.1))

set_option maxHeartbeats 4000000 in
/-- One point of the grid. -/
theorem point_run (c : Dev nD) (Pout : Fin cfg0.N → Vec F S512x1024 .f32 → Prop) (Inv : Carried (F := F)) (hstep : StepOK m c Pout Inv)
    (t : Fin cfg0.N) (K : PUnit → sProp 𝕄) :
    iprop(PhiI c Inv t.val ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ (∃ d, owns (c : Thread nD τ) (ms0_14 t) fullShare d)
      ∗ (iprop(PhiI c Inv (t.val + 1) ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ (∃ d, ⌜Pout t d⌝ ∗ owns (c : Thread nD τ) (ms0_14 t) fullShare d)) -∗ K ⟨⟩))
      ⊢ wp frame (wpE (defs₀ (F := F)) Variants.none c none) Set.univ (bodyAt0 t) K := by
  unfold PhiI bodyAt0
  iintro ⟨⟨⟨⟨%s0, %s1, %s2, %s3, %hinv, HS0, HS1, HS2, HS3⟩, HS4, HS5, HS6, HS7, HS8, HS9, HS10, HS11⟩, Hg⟩, H0, H1, H2, H3, H4, H5, H6, H7, H8, H9, H10, H11, H12, H13, H14, Hk⟩
  iapply (tile_any (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) scM0_6 (Memref.isWhole_whole cc0_scratch6) scM0_7 (Memref.isWhole_whole cc0_scratch7) scM0_8 (Memref.isWhole_whole cc0_scratch8) scM0_9 (Memref.isWhole_whole cc0_scratch9) scM0_10 (Memref.isWhole_whole cc0_scratch10) scM0_11 (Memref.isWhole_whole cc0_scratch11) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s0 s1 s2 s3
    (fun d t0 t1 t2 t3 => Pout t d ∧ Inv (t.val + 1) t0 t1 t2 t3) (fun u0 u1 u2 u3 h1 h2 f => hstep t s0 s1 s2 s3 hinv u0 u1 u2 u3 h1 h2 f) Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, ⟨%d, %t0, %t1, %t2, %t3, %hq, H14, HS0, HS1, HS2, HS3⟩, HS4, HS5, HS6, HS7, HS8, HS9, HS10, HS11⟩
  iapply Hk
  isplitl [Hg HS0 HS1 HS2 HS3 HS4 HS5 HS6 HS7 HS8 HS9 HS10 HS11]
  · isplitr [Hg]
    swap; · iexact Hg
    isplitl [HS0 HS1 HS2 HS3]
    · iexists _, _, _, _
      isplitr
      · ipureintro; exact fun _ => hq.2
      isplitl [HS0]; · iexact HS0
      isplitl [HS1]; · iexact HS1
      isplitl [HS2]; · iexact HS2
      iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iexact HS11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists d; isplitr
  · ipureintro; exact hq.1
  iexact H14

/-- The proof data: inputs keep their blocks, the output window is left at `out`, between points `PhiI`. -/
def dats (out : Dev nD → Fin cfg0.N → Vec F S512x1024 .f32) (Inv : Dev nD → Carried (F := F)) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out c t
  Φ t := PhiI c (Inv c) t.val
  q _ := fullShare
  owed _ := 0

variable (out : Dev nD → Fin cfg0.N → Vec F S512x1024 .f32) (Inv : Dev nD → Carried (F := F))

theorem A_eq (c : Dev nD) (w : Fin cfg0.W) : (dats m out Inv 0 c).A w = V m c (Pipeline.arrRef spec0 w) := by
  dsimp only [dats]

theorem after0_0 (c : Dev nD) (t : Fin cfg0.N) : (dats m out Inv 0 c).after 0 t = iblk m c 0 t := by dsimp only [dats]
theorem after0_1 (c : Dev nD) (t : Fin cfg0.N) : (dats m out Inv 0 c).after 1 t = iblk m c 1 t := by dsimp only [dats]
theorem after0_2 (c : Dev nD) (t : Fin cfg0.N) : (dats m out Inv 0 c).after 2 t = iblk m c 2 t := by dsimp only [dats]
theorem after0_3 (c : Dev nD) (t : Fin cfg0.N) : (dats m out Inv 0 c).after 3 t = iblk m c 3 t := by dsimp only [dats]
theorem after0_4 (c : Dev nD) (t : Fin cfg0.N) : (dats m out Inv 0 c).after 4 t = iblk m c 4 t := by dsimp only [dats]
theorem after0_5 (c : Dev nD) (t : Fin cfg0.N) : (dats m out Inv 0 c).after 5 t = iblk m c 5 t := by dsimp only [dats]
theorem after0_6 (c : Dev nD) (t : Fin cfg0.N) : (dats m out Inv 0 c).after 6 t = iblk m c 6 t := by dsimp only [dats]
theorem after0_7 (c : Dev nD) (t : Fin cfg0.N) : (dats m out Inv 0 c).after 7 t = iblk m c 7 t := by dsimp only [dats]
theorem after0_8 (c : Dev nD) (t : Fin cfg0.N) : (dats m out Inv 0 c).after 8 t = iblk m c 8 t := by dsimp only [dats]
theorem after0_9 (c : Dev nD) (t : Fin cfg0.N) : (dats m out Inv 0 c).after 9 t = iblk m c 9 t := by dsimp only [dats]
theorem after0_10 (c : Dev nD) (t : Fin cfg0.N) : (dats m out Inv 0 c).after 10 t = iblk m c 10 t := by dsimp only [dats]
theorem after0_11 (c : Dev nD) (t : Fin cfg0.N) : (dats m out Inv 0 c).after 11 t = iblk m c 11 t := by dsimp only [dats]
theorem after0_12 (c : Dev nD) (t : Fin cfg0.N) : (dats m out Inv 0 c).after 12 t = iblk m c 12 t := by dsimp only [dats]
theorem after0_13 (c : Dev nD) (t : Fin cfg0.N) : (dats m out Inv 0 c).after 13 t = iblk m c 13 t := by dsimp only [dats]
theorem after0_14 (c : Dev nD) (t : Fin cfg0.N) : (dats m out Inv 0 c).after 14 t = out c t := by dsimp only [dats]
theorem before0_0 (c : Dev nD) (t : Fin cfg0.N) (d) : (dats m out Inv 0 c).before 0 t d = iblk m c 0 t :=
  before0_0_of m (dats m out Inv 0 c) (A_eq m out Inv c 0) (after0_0 m out Inv c) t d
theorem before0_1 (c : Dev nD) (t : Fin cfg0.N) (d) : (dats m out Inv 0 c).before 1 t d = iblk m c 1 t :=
  before0_1_of m (dats m out Inv 0 c) (A_eq m out Inv c 1) (after0_1 m out Inv c) t d
theorem before0_2 (c : Dev nD) (t : Fin cfg0.N) (d) : (dats m out Inv 0 c).before 2 t d = iblk m c 2 t :=
  before0_2_of m (dats m out Inv 0 c) (A_eq m out Inv c 2) (after0_2 m out Inv c) t d
theorem before0_3 (c : Dev nD) (t : Fin cfg0.N) (d) : (dats m out Inv 0 c).before 3 t d = iblk m c 3 t :=
  before0_3_of m (dats m out Inv 0 c) (A_eq m out Inv c 3) (after0_3 m out Inv c) t d
theorem before0_4 (c : Dev nD) (t : Fin cfg0.N) (d) : (dats m out Inv 0 c).before 4 t d = iblk m c 4 t :=
  before0_4_of m (dats m out Inv 0 c) (A_eq m out Inv c 4) (after0_4 m out Inv c) t d
theorem before0_5 (c : Dev nD) (t : Fin cfg0.N) (d) : (dats m out Inv 0 c).before 5 t d = iblk m c 5 t :=
  before0_5_of m (dats m out Inv 0 c) (A_eq m out Inv c 5) (after0_5 m out Inv c) t d
theorem before0_6 (c : Dev nD) (t : Fin cfg0.N) (d) : (dats m out Inv 0 c).before 6 t d = iblk m c 6 t :=
  before0_6_of m (dats m out Inv 0 c) (A_eq m out Inv c 6) (after0_6 m out Inv c) t d
theorem before0_7 (c : Dev nD) (t : Fin cfg0.N) (d) : (dats m out Inv 0 c).before 7 t d = iblk m c 7 t :=
  before0_7_of m (dats m out Inv 0 c) (A_eq m out Inv c 7) (after0_7 m out Inv c) t d
theorem before0_8 (c : Dev nD) (t : Fin cfg0.N) (d) : (dats m out Inv 0 c).before 8 t d = iblk m c 8 t :=
  before0_8_of m (dats m out Inv 0 c) (A_eq m out Inv c 8) (after0_8 m out Inv c) t d
theorem before0_9 (c : Dev nD) (t : Fin cfg0.N) (d) : (dats m out Inv 0 c).before 9 t d = iblk m c 9 t :=
  before0_9_of m (dats m out Inv 0 c) (A_eq m out Inv c 9) (after0_9 m out Inv c) t d
theorem before0_10 (c : Dev nD) (t : Fin cfg0.N) (d) : (dats m out Inv 0 c).before 10 t d = iblk m c 10 t :=
  before0_10_of m (dats m out Inv 0 c) (A_eq m out Inv c 10) (after0_10 m out Inv c) t d
theorem before0_11 (c : Dev nD) (t : Fin cfg0.N) (d) : (dats m out Inv 0 c).before 11 t d = iblk m c 11 t :=
  before0_11_of m (dats m out Inv 0 c) (A_eq m out Inv c 11) (after0_11 m out Inv c) t d
theorem before0_12 (c : Dev nD) (t : Fin cfg0.N) (d) : (dats m out Inv 0 c).before 12 t d = iblk m c 12 t :=
  before0_12_of m (dats m out Inv 0 c) (A_eq m out Inv c 12) (after0_12 m out Inv c) t d
theorem before0_13 (c : Dev nD) (t : Fin cfg0.N) (d) : (dats m out Inv 0 c).before 13 t d = iblk m c 13 t :=
  before0_13_of m (dats m out Inv 0 c) (A_eq m out Inv c 13) (after0_13 m out Inv c) t d

/-- With the output's contents left open: what the body is called with, -/
def preF (c : Dev nD) (t : Fin cfg0.N) : sProp 𝕄 :=
  iprop((dats m out Inv 0 c).Φ t.castSucc ∗ (dats m out Inv 0 c).owesAt () t.castSucc
    ∗ (∃ d, owns (c : Thread nD τ) (ms0_0 t) fullShare ((dats m out Inv 0 c).before 0 t d))
    ∗ (∃ d, owns (c : Thread nD τ) (ms0_1 t) fullShare ((dats m out Inv 0 c).before 1 t d))
    ∗ (∃ d, owns (c : Thread nD τ) (ms0_2 t) fullShare ((dats m out Inv 0 c).before 2 t d))
    ∗ (∃ d, owns (c : Thread nD τ) (ms0_3 t) fullShare ((dats m out Inv 0 c).before 3 t d))
    ∗ (∃ d, owns (c : Thread nD τ) (ms0_4 t) fullShare ((dats m out Inv 0 c).before 4 t d))
    ∗ (∃ d, owns (c : Thread nD τ) (ms0_5 t) fullShare ((dats m out Inv 0 c).before 5 t d))
    ∗ (∃ d, owns (c : Thread nD τ) (ms0_6 t) fullShare ((dats m out Inv 0 c).before 6 t d))
    ∗ (∃ d, owns (c : Thread nD τ) (ms0_7 t) fullShare ((dats m out Inv 0 c).before 7 t d))
    ∗ (∃ d, owns (c : Thread nD τ) (ms0_8 t) fullShare ((dats m out Inv 0 c).before 8 t d))
    ∗ (∃ d, owns (c : Thread nD τ) (ms0_9 t) fullShare ((dats m out Inv 0 c).before 9 t d))
    ∗ (∃ d, owns (c : Thread nD τ) (ms0_10 t) fullShare ((dats m out Inv 0 c).before 10 t d))
    ∗ (∃ d, owns (c : Thread nD τ) (ms0_11 t) fullShare ((dats m out Inv 0 c).before 11 t d))
    ∗ (∃ d, owns (c : Thread nD τ) (ms0_12 t) fullShare ((dats m out Inv 0 c).before 12 t d))
    ∗ (∃ d, owns (c : Thread nD τ) (ms0_13 t) fullShare ((dats m out Inv 0 c).before 13 t d))
    ∗ (∃ d, owns (c : Thread nD τ) (ms0_14 t) fullShare d))

/-- and what it returns. -/
def postF (c : Dev nD) (t : Fin cfg0.N) : sProp 𝕄 :=
  iprop((dats m out Inv 0 c).Φ t.succ ∗ (dats m out Inv 0 c).owesAt () t.succ
    ∗ owns (c : Thread nD τ) (ms0_0 t) fullShare ((dats m out Inv 0 c).after 0 t)
    ∗ owns (c : Thread nD τ) (ms0_1 t) fullShare ((dats m out Inv 0 c).after 1 t)
    ∗ owns (c : Thread nD τ) (ms0_2 t) fullShare ((dats m out Inv 0 c).after 2 t)
    ∗ owns (c : Thread nD τ) (ms0_3 t) fullShare ((dats m out Inv 0 c).after 3 t)
    ∗ owns (c : Thread nD τ) (ms0_4 t) fullShare ((dats m out Inv 0 c).after 4 t)
    ∗ owns (c : Thread nD τ) (ms0_5 t) fullShare ((dats m out Inv 0 c).after 5 t)
    ∗ owns (c : Thread nD τ) (ms0_6 t) fullShare ((dats m out Inv 0 c).after 6 t)
    ∗ owns (c : Thread nD τ) (ms0_7 t) fullShare ((dats m out Inv 0 c).after 7 t)
    ∗ owns (c : Thread nD τ) (ms0_8 t) fullShare ((dats m out Inv 0 c).after 8 t)
    ∗ owns (c : Thread nD τ) (ms0_9 t) fullShare ((dats m out Inv 0 c).after 9 t)
    ∗ owns (c : Thread nD τ) (ms0_10 t) fullShare ((dats m out Inv 0 c).after 10 t)
    ∗ owns (c : Thread nD τ) (ms0_11 t) fullShare ((dats m out Inv 0 c).after 11 t)
    ∗ owns (c : Thread nD τ) (ms0_12 t) fullShare ((dats m out Inv 0 c).after 12 t)
    ∗ owns (c : Thread nD τ) (ms0_13 t) fullShare ((dats m out Inv 0 c).after 13 t)
    ∗ (∃ d, owns (c : Thread nD τ) (ms0_14 t) fullShare d))

/-- With the output's contents named: what the body is called with, -/
def preV (c : Dev nD) (t : Fin cfg0.N) : sProp 𝕄 :=
  iprop((dats m out Inv 0 c).Φ t.castSucc ∗ (dats m out Inv 0 c).owesAt () t.castSucc
    ∗ (∃ d, owns (c : Thread nD τ) (ms0_0 t) fullShare ((dats m out Inv 0 c).before 0 t d))
    ∗ (∃ d, owns (c : Thread nD τ) (ms0_1 t) fullShare ((dats m out Inv 0 c).before 1 t d))
    ∗ (∃ d, owns (c : Thread nD τ) (ms0_2 t) fullShare ((dats m out Inv 0 c).before 2 t d))
    ∗ (∃ d, owns (c : Thread nD τ) (ms0_3 t) fullShare ((dats m out Inv 0 c).before 3 t d))
    ∗ (∃ d, owns (c : Thread nD τ) (ms0_4 t) fullShare ((dats m out Inv 0 c).before 4 t d))
    ∗ (∃ d, owns (c : Thread nD τ) (ms0_5 t) fullShare ((dats m out Inv 0 c).before 5 t d))
    ∗ (∃ d, owns (c : Thread nD τ) (ms0_6 t) fullShare ((dats m out Inv 0 c).before 6 t d))
    ∗ (∃ d, owns (c : Thread nD τ) (ms0_7 t) fullShare ((dats m out Inv 0 c).before 7 t d))
    ∗ (∃ d, owns (c : Thread nD τ) (ms0_8 t) fullShare ((dats m out Inv 0 c).before 8 t d))
    ∗ (∃ d, owns (c : Thread nD τ) (ms0_9 t) fullShare ((dats m out Inv 0 c).before 9 t d))
    ∗ (∃ d, owns (c : Thread nD τ) (ms0_10 t) fullShare ((dats m out Inv 0 c).before 10 t d))
    ∗ (∃ d, owns (c : Thread nD τ) (ms0_11 t) fullShare ((dats m out Inv 0 c).before 11 t d))
    ∗ (∃ d, owns (c : Thread nD τ) (ms0_12 t) fullShare ((dats m out Inv 0 c).before 12 t d))
    ∗ (∃ d, owns (c : Thread nD τ) (ms0_13 t) fullShare ((dats m out Inv 0 c).before 13 t d))
    ∗ (∃ d, owns (c : Thread nD τ) (ms0_14 t) fullShare ((dats m out Inv 0 c).before 14 t d)))

/-- and what it returns. -/
def postV (c : Dev nD) (t : Fin cfg0.N) : sProp 𝕄 :=
  iprop((dats m out Inv 0 c).Φ t.succ ∗ (dats m out Inv 0 c).owesAt () t.succ
    ∗ owns (c : Thread nD τ) (ms0_0 t) fullShare ((dats m out Inv 0 c).after 0 t)
    ∗ owns (c : Thread nD τ) (ms0_1 t) fullShare ((dats m out Inv 0 c).after 1 t)
    ∗ owns (c : Thread nD τ) (ms0_2 t) fullShare ((dats m out Inv 0 c).after 2 t)
    ∗ owns (c : Thread nD τ) (ms0_3 t) fullShare ((dats m out Inv 0 c).after 3 t)
    ∗ owns (c : Thread nD τ) (ms0_4 t) fullShare ((dats m out Inv 0 c).after 4 t)
    ∗ owns (c : Thread nD τ) (ms0_5 t) fullShare ((dats m out Inv 0 c).after 5 t)
    ∗ owns (c : Thread nD τ) (ms0_6 t) fullShare ((dats m out Inv 0 c).after 6 t)
    ∗ owns (c : Thread nD τ) (ms0_7 t) fullShare ((dats m out Inv 0 c).after 7 t)
    ∗ owns (c : Thread nD τ) (ms0_8 t) fullShare ((dats m out Inv 0 c).after 8 t)
    ∗ owns (c : Thread nD τ) (ms0_9 t) fullShare ((dats m out Inv 0 c).after 9 t)
    ∗ owns (c : Thread nD τ) (ms0_10 t) fullShare ((dats m out Inv 0 c).after 10 t)
    ∗ owns (c : Thread nD τ) (ms0_11 t) fullShare ((dats m out Inv 0 c).after 11 t)
    ∗ owns (c : Thread nD τ) (ms0_12 t) fullShare ((dats m out Inv 0 c).after 12 t)
    ∗ owns (c : Thread nD τ) (ms0_13 t) fullShare ((dats m out Inv 0 c).after 13 t)
    ∗ owns (c : Thread nD τ) (ms0_14 t) fullShare ((dats m out Inv 0 c).after 14 t))

set_option maxHeartbeats 4000000 in
theorem soundF (c : Dev nD) (hstep : StepOK m c (fun _ _ => True) (Inv c)) (t : Fin cfg0.N) :
    preF m out Inv c t ⊢ wp frame (wpE (defs₀ (F := F)) Variants.none c none) Set.univ (bodyAt0 t) (fun _ => postF m out Inv c t) := by
  unfold preF postF
  simp only [before0_0, before0_1, before0_2, before0_3, before0_4, before0_5, before0_6, before0_7, before0_8, before0_9, before0_10, before0_11, before0_12, before0_13]
  rw [show (dats m out Inv 0 c).owesAt () t.succ = (dats m out Inv 0 c).owesAt () t.castSucc from rfl,
    after0_0, after0_1, after0_2, after0_3, after0_4, after0_5, after0_6, after0_7, after0_8, after0_9, after0_10, after0_11, after0_12, after0_13]
  rw [show (dats m out Inv 0 c).Φ t.castSucc = PhiI c (Inv c) t.val from rfl, show (dats m out Inv 0 c).Φ t.succ = PhiI c (Inv c) (t.val + 1) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (point_run m c (fun _ _ => True) (Inv c) hstep t _)
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · (iexists _; iexact H14)
  iintro ⟨HP, H0, H1, H2, H3, H4, H5, H6, H7, H8, H9, H10, H11, H12, H13, ⟨%d, %hd, H14⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists d; iexact H14

set_option maxHeartbeats 4000000 in
theorem soundV (c : Dev nD) (hstep : StepOK m c (fun t d => d = out c t) (Inv c)) (t : Fin cfg0.N) :
    preV m out Inv c t ⊢ wp frame (wpE (defs₀ (F := F)) Variants.none c none) Set.univ (bodyAt0 t) (fun _ => postV m out Inv c t) := by
  unfold preV postV
  simp only [before0_0, before0_1, before0_2, before0_3, before0_4, before0_5, before0_6, before0_7, before0_8, before0_9, before0_10, before0_11, before0_12, before0_13]
  rw [show (dats m out Inv 0 c).owesAt () t.succ = (dats m out Inv 0 c).owesAt () t.castSucc from rfl,
    after0_0, after0_1, after0_2, after0_3, after0_4, after0_5, after0_6, after0_7, after0_8, after0_9, after0_10, after0_11, after0_12, after0_13, after0_14]
  rw [show (dats m out Inv 0 c).Φ t.castSucc = PhiI c (Inv c) t.val from rfl, show (dats m out Inv 0 c).Φ t.succ = PhiI c (Inv c) (t.val + 1) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (point_run m c (fun t d => d = out c t) (Inv c) hstep t _)
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · (iexists _; iexact H14)
  iintro ⟨HP, H0, H1, H2, H3, H4, H5, H6, H7, H8, H9, H10, H11, H12, H13, ⟨%d, %hd, H14⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  subst hd; iexact H14

theorem defs₀_row (t : Fin cfg0.N) :
    defs₀ (F := F) .tc cfg0.body (cfg0.bodyArgs t (cfg0.slots t)) = bodyAt0 t := by
  unfold defs₀; rw [Defs.onTc_tc]

/-- The output window, the one whose contents the frame leaves open. -/
abbrev openOut : Fin cfg0.W → Bool := fun w => w.val == 14

theorem obligationF (c : Dev nD) (hstep : StepOK m c (fun _ _ => True) (Inv c)) :
    BodyObligation (dats (F := F) m out Inv 0 c) (defs₀ (F := F)) Variants.none () Set.univ openOut := fun t => by
  rw [bigSep_W0, bigSep_W0, defs₀_row]
  exact triple_restated (soundF m out Inv c hstep t) rfl .rfl fun _ => .rfl

theorem obligationV (c : Dev nD) (hstep : StepOK m c (fun t d => d = out c t) (Inv c)) :
    BodyObligation (dats (F := F) m out Inv 0 c) (defs₀ (F := F)) Variants.none () Set.univ := fun t => by
  rw [bigSep_W0, bigSep_W0, defs₀_row]
  exact triple_restated (soundV m out Inv c hstep t) rfl .rfl fun _ => .rfl

theorem hin (c : Dev nD) : Pipeline.ΦA spec0 c ⊢ (dats m out Inv 0 c).Φ 0 := by
  rw [show (dats m out Inv 0 c).Φ 0 = PhiI c (Inv c) 0 from rfl, PhiA0_eq]
  unfold PhiI
  iintro ⟨⟨⟨%s0, HS0⟩, ⟨%s1, HS1⟩, ⟨%s2, HS2⟩, ⟨%s3, HS3⟩, HR⟩, Hg⟩
  isplitr [Hg]
  swap; · iexact Hg
  isplitr [HR]
  swap; · iexact HR
  iexists s0, s1, s2, s3
  isplitr
  · ipureintro; exact fun h => absurd rfl h
  isplitl [HS0]; · iexact HS0
  isplitl [HS1]; · iexact HS1
  isplitl [HS2]; · iexact HS2
  iexact HS3

theorem hout (c : Dev nD) : (dats m out Inv 0 c).Φ (Fin.last cfg0.N) ⊢ Pipeline.ΦA spec0 c := by
  rw [show (dats m out Inv 0 c).Φ (Fin.last cfg0.N) = PhiI c (Inv c) cfg0.N from rfl, PhiA0_eq]
  unfold PhiI
  iintro ⟨⟨⟨%s0, %s1, %s2, %s3, %hi, HS0, HS1, HS2, HS3⟩, HR⟩, Hg⟩
  isplitr [Hg]
  swap; · iexact Hg
  isplitl [HS0]; · (iexists _; iexact HS0)
  isplitl [HS1]; · (iexists _; iexact HS1)
  isplitl [HS2]; · (iexists _; iexact HS2)
  isplitl [HS3]; · (iexists _; iexact HS3)
  iexact HR

set_option backward.isDefEq.respectTransparency.types false in
/-- The launch with the output's contents left open. -/
theorem run_open (hstep : ∀ c, StepOK m c (fun _ _ => True) (Inv c)) : θ_run defs (onTc (τ := τ) (main (F := F))) (s₀ m ρ)
    (fun r => Pipeline.RDat.FramePost (cfgs 0) (fun c => (dats m out Inv 0 c).toRForget openOut) (V m) r ∧ r.2.sem = fun _ => 0) :=
  Pipeline.θ_run_frame_track_forget (Q' := _) (hQ' := fun _ h => h) cfgs (dats m out Inv) (0 : Fin 1) launch0 defs₀ Variants.none openOut m ρ main
    (hbody := fun c => (obligationF m out Inv c (hstep c)).loose) (hshare := fun c => (dats m out Inv 0 c).share_full fun _ => rfl)
    (howed := fun _ _ => rfl) (V := V m) (hmain := hmain m Variants.none) (hA := A_eq m out Inv) (hin := hin m out Inv) (hout := hout m out Inv)

set_option backward.isDefEq.respectTransparency.types false in
/-- The launch with the output's contents named. -/
theorem run_named (hstep : ∀ c, StepOK m c (fun t d => d = out c t) (Inv c)) : θ_run defs (onTc (τ := τ) (main (F := F))) (s₀ m ρ)
    (fun r => Pipeline.FramePost cfgs (dats m out Inv) 0 (V m) r ∧ r.2.sem = fun _ => 0) :=
  Pipeline.θ_run_frame_track (Q' := _) cfgs (dats m out Inv) (0 : Fin 1) launch0 defs₀ Variants.none m ρ main
    (hbody := fun c => (obligationV m out Inv c (hstep c)).loose) (hshare := fun c => (dats m out Inv 0 c).share_full fun _ => rfl)
    (howed := fun _ _ => rfl) (V := V m) (hmain := hmain m Variants.none) (hA := A_eq m out Inv) (hin := hin m out Inv) (hout := hout m out Inv)

/-- The frame of the kernel: it ends, the arguments as they were and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine (θ_run defs _ _).mono ?_ (run_open m ρ (fun c t => iblk m c 0 t) (fun _ _ _ _ _ _ => True) fun c t s0 s1 s2 s3 _ u0 u1 u2 u3 _ _ f => ⟨trivial, trivial⟩)
  intro r h
  refine ⟨fun c => ?_, h.2⟩
  exact ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c)⟩

end Cert.Mixer

end
-- ==== Proof.RefFrame.lean ====
/- The mixer reference's frame: from the run of its loop as a fold, no stretch of host operations writes an argument. -/
module

public import proofs.«01_k».proof.Proof.Gen.ReferenceIdeal.Run
public import Idealize.ShloMosaic.Lib.Quiescent

@[expose] public section

set_option maxRecDepth 20000

noncomputable section

namespace Cert.Mixer.Ref

open Cert.ReferenceIdeal Cert.ReferenceIdeal.Gen Cert.ReferenceIdeal.Value Idealize.ShloMosaic Idealize.ShloMosaic.StableHlo Idealize.ShloMosaic.TcCoe Idealize.SL.Sem

variable {F : FTy → Type} [FloatOps F]

/-- The references that the stretch 9 of @main writes, in order. -/
abbrev wrote9 : List (Ref sig .tc) := [main_v99, main_v100, main_cst_9, main_v101, main_v102, main_cst_10, main_v103, main_v104, main_v105, main_v106, main_v107, main_cst_11, main_v108, main_v109, main_cst_12, main_v110, main_v111, main_cst_13, main_v112, main_v113, main_v114, main_v115, main_v116, main_v117, main_v118, main_v119, main_v120, main_cst_14, main_v121, main_v122, main_cst_15, main_v123, main_v124, main_v125, main_v126, main_v127, main_v128, main_v129, main_v130, main_v131, main_v132, main_cst_16, main_v133, main_v134, main_v135, main_cst_17, main_v136, main_v137, main_v138, main_v139, main_v140, main_v141, main_cst_18, main_v142, main_v143, main_cst_19, main_v144, main_v145, main_v146, main_v147, main_v148, main_cst_20, main_v149, main_v150, main_cst_21, main_v151, main_v152, main_cst_22, main_v153, main_v154, main_v155, main_v156, main_v157, main_v158, main_v159, main_v160, main_v161, main_v162, main_v163, main_v164, main_v165, main_c_23]
theorem wrote9_all : (hostOps0_9 : List (HloOp τ sig (Elt F))).Forall fun op => op.writes ⊆ (wrote9.map (Proc.devRef (τ := τ) .tc)).toFinset :=
  forall_writes_sub_of_map rfl

/-- The references that the stretch 10 of @main writes, in order. -/
abbrev wrote10 : List (Ref sig .tc) := [main_call12_v0, main_call12_v1, main_call12_v2, main_call12_v3, main_call12_v4, main_call12_v5, main_call12_v6, main_call12_v7, main_call12_v8, main_call12_c, main_call12_v9, main_call12_v10, main_call12_v11, main_call12_c_0, main_call12_v12, main_call12_v13, main_v166]
theorem wrote10_all : (hostOps0_10 : List (HloOp τ sig (Elt F))).Forall fun op => op.writes ⊆ (wrote10.map (Proc.devRef (τ := τ) .tc)).toFinset :=
  forall_writes_sub_of_map rfl

/-- The references that the stretch 11 of @main writes, in order. -/
abbrev wrote11 : List (Ref sig .tc) := [main_v167, main_v168, main_v169, main_v170, main_v171, main_cst_24]
theorem wrote11_all : (hostOps0_11 : List (HloOp τ sig (Elt F))).Forall fun op => op.writes ⊆ (wrote11.map (Proc.devRef (τ := τ) .tc)).toFinset :=
  forall_writes_sub_of_map rfl

/-- The references that the stretch 12 of @main writes, in order. -/
abbrev wrote12 : List (Ref sig .tc) := [main_call13_v0, main_call13_v1, main_call13_v2, main_v172]
theorem wrote12_all : (hostOps0_12 : List (HloOp τ sig (Elt F))).Forall fun op => op.writes ⊆ (wrote12.map (Proc.devRef (τ := τ) .tc)).toFinset :=
  forall_writes_sub_of_map rfl

/-- The references that the stretch 13 of @main writes, in order. -/
abbrev wrote13 : List (Ref sig .tc) := [main_v173, main_v174, main_v175, main_v176, main_v177, main_v178, main_v179, main_v180, main_v181, main_v182, main_v183, main_cst_25, main_v184, main_v185, main_cst_26, main_v186, main_v187, main_v188, main_v189, main_v190, main_cst_27, main_v191, main_v192, main_cst_28, main_v193, main_v194, main_v195, main_v196, main_v197, main_v198, main_v199, main_v200]
theorem wrote13_all : (hostOps0_13 : List (HloOp τ sig (Elt F))).Forall fun op => op.writes ⊆ (wrote13.map (Proc.devRef (τ := τ) .tc)).toFinset :=
  forall_writes_sub_of_map rfl

/-- No operation before the loop, in its condition, in its body or after it writes `b`. -/
structure Kept (b : Ref sig .tc) : Prop where
  n_hostOps0 : b ∉ hostOps0_W
  n_hostOps0_1 : b ∉ hostOps0_1_W
  n_hostOps0_2 : b ∉ hostOps0_2_W
  n_hostOps0_3 : b ∉ hostOps0_3_W
  n_hostOps0_4 : b ∉ hostOps0_4_W
  n_hostOps0_5 : b ∉ hostOps0_5_W
  n_hostOps0_6 : b ∉ hostOps0_6_W
  n_hostOps0_7 : b ∉ hostOps0_7_W
  n_hostOps0_8 : b ∉ hostOps0_8_W
  n_while0Ops0 : b ∉ while0Ops0_W
  n_while0Ops0_1 : b ∉ while0Ops0_1_W
  n_while0Ops0_2 : b ∉ while0Ops0_2_W
  n_while0Ops0_3 : b ∉ while0Ops0_3_W
  n_while0Ops0_4 : b ∉ while0Ops0_4_W
  n_while0Ops0_5 : b ∉ while0Ops0_5_W
  n_while0Ops0_6 : b ∉ while0Ops0_6_W
  n_while0Ops0_7 : b ∉ while0Ops0_7_W
  n_while0Ops0_8 : b ∉ while0Ops0_8_W
  n_while0Ops0_9 : b ∉ while0Ops0_9_W
  n_while0Ops0_10 : b ∉ while0Ops0_10_W
  n_condOps : b ∉ condOps_W
  n_hostOps0_9 : b ∉ wrote9
  n_hostOps0_10 : b ∉ wrote10
  n_hostOps0_11 : b ∉ wrote11
  n_hostOps0_12 : b ∉ wrote12
  n_hostOps0_13 : b ∉ wrote13

variable (m : (ℓ : Loc nD τ sig) → Buf (Elt F) ℓ)

theorem kept_entry {b : Ref sig .tc} (h : Kept b) (c : Dev nD) :
    entryContents preI m c (Proc.devRef .tc b) = m ((c.tc : Thread nD τ).loc b) := by
  simp only [entryContents, preI, afterL_cons, afterL_nil]
  rw [(after_of_writes_sub hostOps0_8 _ hostOps0_8_writes h.n_hostOps0_8), (after_of_writes_sub hostOps0_7 _ hostOps0_7_writes h.n_hostOps0_7), (after_of_writes_sub hostOps0_6 _ hostOps0_6_writes h.n_hostOps0_6), (after_of_writes_sub hostOps0_5 _ hostOps0_5_writes h.n_hostOps0_5), (after_of_writes_sub hostOps0_4 _ hostOps0_4_writes h.n_hostOps0_4), (after_of_writes_sub hostOps0_3 _ hostOps0_3_writes h.n_hostOps0_3), (after_of_writes_sub hostOps0_2 _ hostOps0_2_writes h.n_hostOps0_2), (after_of_writes_sub hostOps0_1 _ hostOps0_1_writes h.n_hostOps0_1), (after_of_writes_sub hostOps0 _ hostOps0_writes h.n_hostOps0)]

theorem kept_body {b : Ref sig .tc} (h : Kept b) (V : Valuation τ sig (Elt F)) :
    afterL bodyI V (Proc.devRef .tc b) = V (Proc.devRef .tc b) := by
  simp only [bodyI, afterL_cons, afterL_nil]
  rw [(after_of_writes_sub while0Ops0_10 _ while0Ops0_10_writes h.n_while0Ops0_10), (after_of_writes_sub while0Ops0_9 _ while0Ops0_9_writes h.n_while0Ops0_9), (after_of_writes_sub while0Ops0_8 _ while0Ops0_8_writes h.n_while0Ops0_8), (after_of_writes_sub while0Ops0_7 _ while0Ops0_7_writes h.n_while0Ops0_7), (after_of_writes_sub while0Ops0_6 _ while0Ops0_6_writes h.n_while0Ops0_6), (after_of_writes_sub while0Ops0_5 _ while0Ops0_5_writes h.n_while0Ops0_5), (after_of_writes_sub while0Ops0_4 _ while0Ops0_4_writes h.n_while0Ops0_4), (after_of_writes_sub while0Ops0_3 _ while0Ops0_3_writes h.n_while0Ops0_3), (after_of_writes_sub while0Ops0_2 _ while0Ops0_2_writes h.n_while0Ops0_2), (after_of_writes_sub while0Ops0_1 _ while0Ops0_1_writes h.n_while0Ops0_1), (after_of_writes_sub while0Ops0 _ while0Ops0_writes h.n_while0Ops0)]

theorem kept_trip {b : Ref sig .tc} (h : Kept b) (c : Dev nD) (k : ℕ) :
    atTrip condOps bodyI (entryContents preI m) k c (Proc.devRef .tc b) = m ((c.tc : Thread nD τ).loc b) := by
  induction k with
  | zero => rw [atTrip_zero]; exact kept_entry m h c
  | succ k ih => rw [atTrip_succ, kept_body h, after_of_writes_sub condOps _ condOps_writes h.n_condOps, ih]

theorem kept_final {b : Ref sig .tc} (h : Kept b) (c : Dev nD) :
    finalContents condOps preI bodyI postI 64 m c (Proc.devRef .tc b) = m ((c.tc : Thread nD τ).loc b) := by
  simp only [finalContents, postI, afterL_cons, afterL_nil]
  rw [(after_of_writes_sub hostOps0_13 _ wrote13_all h.n_hostOps0_13), (after_of_writes_sub hostOps0_12 _ wrote12_all h.n_hostOps0_12), (after_of_writes_sub hostOps0_11 _ wrote11_all h.n_hostOps0_11), (after_of_writes_sub hostOps0_10 _ wrote10_all h.n_hostOps0_10), (after_of_writes_sub hostOps0_9 _ wrote9_all h.n_hostOps0_9), after_of_writes_sub condOps _ condOps_writes h.n_condOps, kept_trip m h]

theorem kept_arg0 : Kept main_arg0 := by constructor <;> decide
theorem kept_arg1 : Kept main_arg1 := by constructor <;> decide
theorem kept_arg2 : Kept main_arg2 := by constructor <;> decide
theorem kept_arg3 : Kept main_arg3 := by constructor <;> decide
theorem kept_arg4 : Kept main_arg4 := by constructor <;> decide
theorem kept_arg5 : Kept main_arg5 := by constructor <;> decide
theorem kept_arg6 : Kept main_arg6 := by constructor <;> decide
theorem kept_arg7 : Kept main_arg7 := by constructor <;> decide
theorem kept_arg8 : Kept main_arg8 := by constructor <;> decide
theorem kept_arg9 : Kept main_arg9 := by constructor <;> decide
theorem kept_arg10 : Kept main_arg10 := by constructor <;> decide
theorem kept_arg11 : Kept main_arg11 := by constructor <;> decide
theorem kept_arg12 : Kept main_arg12 := by constructor <;> decide

/-- The mixer's reference runs, its arguments end as they were and no counter is left raised. -/
theorem frame (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h c main_arg0 (by decide)).trans (kept_final m kept_arg0 c), (h c main_arg1 (by decide)).trans (kept_final m kept_arg1 c), (h c main_arg2 (by decide)).trans (kept_final m kept_arg2 c), (h c main_arg3 (by decide)).trans (kept_final m kept_arg3 c), (h c main_arg4 (by decide)).trans (kept_final m kept_arg4 c), (h c main_arg5 (by decide)).trans (kept_final m kept_arg5 c), (h c main_arg6 (by decide)).trans (kept_final m kept_arg6 c), (h c main_arg7 (by decide)).trans (kept_final m kept_arg7 c), (h c main_arg8 (by decide)).trans (kept_final m kept_arg8 c), (h c main_arg9 (by decide)).trans (kept_final m kept_arg9 c), (h c main_arg10 (by decide)).trans (kept_final m kept_arg10 c), (h c main_arg11 (by decide)).trans (kept_final m kept_arg11 c), (h c main_arg12 (by decide)).trans (kept_final m kept_arg12 c)⟩,
    Idealize.ShloMosaic.sem_eq_zero_of_no_sems (by decide) r.2⟩) (run_fold m ρ)

end Cert.Mixer.Ref

end
-- ==== Proof.Same.lean ====
module

public import proofs.«01_k».proof.Defs
public import proofs.«01_k».proof.Proof.Gen.Kernel
public import proofs.«01_k».proof.Proof.Gen.KernelIdeal
public import Idealize.ShloMosaic.Adequacy
public import Idealize.ShloMosaic.Init

@[expose] public section
noncomputable section
namespace Cert.Same
open Idealize.ShloMosaic Idealize.SL.Sem

set_option maxHeartbeats 40000000
set_option maxRecDepth 100000

/-- The two mixer programs have the same text: their body tables are equal. -/
theorem defs_eq : (Cert.Kernel.defs₀ (F := Bits) : Defs Cert.KernelIdeal.nD Cert.KernelIdeal.τ Cert.KernelIdeal.sig (Elt Bits) Cert.KernelIdeal.Λ₀) = Cert.KernelIdeal.defs₀ (F := Bits)  := by
  funext p ℓ a
  match p with
  | .tc =>
    match ℓ, a with
    | 0, (t, s) =>
      show Cert.Kernel.cc0_mixer (F := Bits) _ _ _ _ _ _ _ _ _ _ _ _ _ _ _ _ _ _ _ _ _ _ _ _ _ _ _ _ _ _ _ _ _ _ _ _ _ _ _ _ _ _ _ _ _ _ _ _ _ _ _ _ _ _ _ = Cert.KernelIdeal.cc0_mixer (F := Bits) _ _ _ _ _ _ _ _ _ _ _ _ _ _ _ _ _ _ _ _ _ _ _ _ _ _ _ _ _ _ _ _ _ _ _ _ _ _ _ _ _ _ _ _ _ _ _ _ _ _ _ _ _ _ _
      rfl
  | .scScalar _ => rfl
  | .scVector _ _ => rfl
/-- So a run of the one is a run of the other. -/
theorem run_of (m ρ) (Q) (h : θ_run (Cert.KernelIdeal.defs (F := Bits)) (onTc Cert.KernelIdeal.main) { mem := m, sem := fun _ => 0, prng := ρ } Q) : θ_run (Cert.Kernel.defs (F := Bits)) (onTc Cert.Kernel.main) { mem := m, sem := fun _ => 0, prng := ρ } Q := by
  have h' : θ_run (Pipeline.defs (Cert.KernelIdeal.pcfgs (F := Bits)) (Cert.Kernel.defs₀ (F := Bits) : Defs Cert.KernelIdeal.nD Cert.KernelIdeal.τ Cert.KernelIdeal.sig (Elt Bits) Cert.KernelIdeal.Λ₀)) (onTc Cert.KernelIdeal.main) { mem := m, sem := fun _ => 0, prng := ρ } Q := by rw [defs_eq]; exact h
  exact h'
end Cert.Same
end
-- ==== Proof.Ffn.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.Ffn
open Cert.Kernel2Ideal Cert.Kernel2Ideal.Gen

/-! ## One row of the feed-forward, as mathematics -/

/-- A row divided by its root mean square, times the gain. -/
def nrm (r g : Fin 1024 → EReal) (k : Fin 1024) : EReal :=
  r k * Ideal.rsqrt (Ideal.div (∑ x, r x * r x) (Ideal.ofBits FTy.f32 1149239296#32) + Ideal.ofBits FTy.f32 897988541#32) * g k

/-- The gate through its sigmoid, times the up projection. -/
def act (a b : EReal) : EReal := a * Ideal.div 1 (1 + Ideal.exp (-a)) * b

/-- A hidden unit of the row: the input weights' left half is the gate, the right half the up projection. -/
def hid (r g : Fin 1024 → EReal) (w : Fin 1024 → Fin 5632 → EReal) (f : Fin 2816) : EReal :=
  act (∑ k, nrm r g k * w k ⟨f.val, by omega⟩) (∑ k, nrm r g k * w k ⟨2816 + f.val, by omega⟩)

/-- The row plus half its feed-forward. -/
def half (r g : Fin 1024 → EReal) (w : Fin 1024 → Fin 5632 → EReal) (o : Fin 2816 → Fin 1024 → EReal) (j : Fin 1024) : EReal :=
  r j + Ideal.ofBits FTy.f32 1056964608#32 * ∑ f, hid r g w f * o f j

/-! ## The payloads at an index -/

theorem pay4_at (x0 : Vec Ideal S1024x1024 .f32) (x1 : Vec Ideal S1x1024 .f32) (a b : Fin 1024) :
    k0_pay4 (F := Ideal) x0 x1 (ix2 a b) = nrm (fun k => x0 (ix2 a k)) (fun k => x1 (ix2 0 k)) b := by
  unfold nrm
  pointwise [k0_pay4, k0_pay3]

theorem pay3_at (x0 : Vec Ideal S1024x1024 .f32) (a b : Fin 1024) : k0_pay3 (F := Ideal) x0 (ix2 a b) = x0 (ix2 a b) := by
  pointwise [k0_pay3]

theorem pay8_at (h : FVec Ideal S1024x1024 .bf16) (u v : Vec Ideal S1024x256 .bf16) (a : Fin 1024) (b : Fin 256) :
    k0_pay8 (F := Ideal) h u v (ix2 a b) = act (∑ x, h (ix2 a x) * u (ix2 x b)) (∑ x, h (ix2 a x) * v (ix2 x b)) := by
  unfold act
  pointwise [k0_pay8]
  simp only [zero_sub]

theorem pay2_at (v1 : FVec Ideal S1024x1024 .f32) (v226 : Vec Ideal S1024x2816 .bf16) (v227 : Vec Ideal S2816x1024 .bf16)
    (v233 : Vec Ideal S1x1024 .f32) (a b : Fin 1024) :
    k0_pay2 (F := Ideal) v1 v226 v227 v233 (ix2 a b)
      = nrm (fun j => v1 (ix2 a j) + Ideal.ofBits FTy.f32 1056964608#32 * ∑ f, v226 (ix2 a f) * v227 (ix2 f j)) (fun j => v233 (ix2 0 j)) b := by
  unfold nrm
  pointwise [k0_pay2]

/-! ## The activation array of a block of rows -/

/-- The hidden units of all rows of a block. -/
def hidV (x0 : Vec Ideal S1024x1024 .f32) (x1 : Vec Ideal S1x1024 .f32) (x2 : Vec Ideal S1024x5632 .bf16) : Vec Ideal S1024x2816 .bf16 :=
  fun i => hid (fun k => x0 (ix2 (i 0) k)) (fun k => x1 (ix2 0 k)) (fun k f => x2 (ix2 k f)) (i 1)

theorem hidV_at (x0 : Vec Ideal S1024x1024 .f32) (x1 : Vec Ideal S1x1024 .f32) (x2 : Vec Ideal S1024x5632 .bf16) (a : Fin 1024) (f : Fin 2816) :
    hidV x0 x1 x2 (ix2 a f) = hid (fun k => x0 (ix2 a k)) (fun k => x1 (ix2 0 k)) (fun k f => x2 (ix2 k f)) f := rfl

/-- A tile of 256 hidden units, computed from the two slices of the input weights it reads. -/
theorem tile_at (x0 : Vec Ideal S1024x1024 .f32) (x1 : Vec Ideal S1x1024 .f32) (x2 : Vec Ideal S1024x5632 .bf16) (o o' : ℕ) (ho' : o' = 2816 + o)
    (i1 : ∀ a, (![0, o] : Fin 2 → ℕ) a + (![1024, 256] : Fin 2 → ℕ) a ≤ S1024x5632.size a)
    (i2 : ∀ a, (![0, o'] : Fin 2 → ℕ) a + (![1024, 256] : Fin 2 → ℕ) a ≤ S1024x5632.size a)
    (x : S1024x256.Idx) (y : S1024x2816.Idx) (h0 : (y 0 : ℕ) = x 0) (h1 : (y 1 : ℕ) = o + x 1) :
    k0_pay8 (F := Ideal) (k0_pay4 x0 x1) (View.ld x2 (Rect.unit ![0, o] ![1024, 256] i1)) (View.ld x2 (Rect.unit ![0, o'] ![1024, 256] i2)) x
      = hidV x0 x1 x2 y := by
  obtain ⟨p, q, rfl⟩ : ∃ (p : Fin 1024) (q : Fin 256), x = (ix2 p q : S1024x256.Idx) := ⟨x 0, x 1, by funext a; fin_cases a <;> rfl⟩
  have hy : p = y 0 := Fin.ext h0.symm
  rw [pay8_at]
  unfold hidV hid
  rw [← hy]
  congr 1
  · refine Finset.sum_congr rfl fun k _ => ?_
    rw [pay4_at]
    congr 1
    rw [View.ld_apply]
    congr 1
    funext a
    apply Fin.ext
    fin_cases a
    · simp [Rect.unit]
    · simp [Rect.unit, h1]
  · refine Finset.sum_congr rfl fun k _ => ?_
    rw [pay4_at]
    congr 1
    rw [View.ld_apply]
    congr 1
    funext a
    apply Fin.ext
    fin_cases a
    · simp [Rect.unit]
    · simp [Rect.unit, h1, ho']; omega

variable (m : (ℓ : Loc nD τ sig) → Buf (Elt Ideal) ℓ)

/-- The tiles are all the same computation. -/
theorem pay5_eq (x0 : Vec Ideal S1024x1024 .f32) (x1 : Vec Ideal S1x1024 .f32) (u v : Vec Ideal S1024x256 .bf16) :
    k0_pay5 (F := Ideal) x0 x1 u v = k0_pay8 (k0_pay4 x0 x1) u v := rfl
section
variable (h : FVec Ideal S1024x1024 .bf16) (u v : Vec Ideal S1024x256 .bf16)
theorem pay7_eq : k0_pay7 (F := Ideal) h (k0_pay6 u) v = k0_pay8 h u v := rfl
theorem pay9_eq : k0_pay9 (F := Ideal) h u v = k0_pay8 h u v := rfl
theorem pay10_eq : k0_pay10 (F := Ideal) h u v = k0_pay8 h u v := rfl
theorem pay11_eq : k0_pay11 (F := Ideal) h u v = k0_pay8 h u v := rfl
theorem pay13_eq : k0_pay13 (F := Ideal) (k0_pay12 h u v) = k0_pay8 h u v := rfl
theorem pay14_eq : k0_pay14 (F := Ideal) h u v = k0_pay8 h u v := rfl
theorem pay16_eq : k0_pay16 (F := Ideal) (k0_pay15 h u v) = k0_pay8 h u v := rfl
theorem pay17_eq : k0_pay17 (F := Ideal) h u v = k0_pay8 h u v := rfl
theorem pay18_eq : k0_pay1 (F := Ideal) (k0_pay18 h u v) = k0_pay8 h u v := rfl
end

/-- The newest tile answers inside its rectangle; outside it the earlier tiles do. -/
theorem canon_step {S : Shape} (G : Vec Ideal S .bf16) (r : Rect S) (P : r.shape.Idx → EReal) (L : List (View.Piece (Elt Ideal) S .bf16)) (y : S.Idx)
    (hP : ∀ x : r.shape.Idx, P x = G (r.emb x)) (hL : y ∉ r.set → View.canon L y = G y) :
    View.canon ((⟨r, P⟩ : View.Piece (Elt Ideal) S .bf16) :: L) y = G y := by
  by_cases h : y ∈ r.set
  · obtain ⟨x, rfl⟩ := r.exists_idx_of_mem h
    rw [show r.idx x = r.emb x from rfl, View.canon_cons_emb]
    exact hP x
  · rw [View.canon_cons_of_not_mem _ _ h]
    exact hL h

/-- A column tile's rectangle holds the rows' whole columns from its offset on. -/
theorem mem_tile (o : ℕ) (i0 : ∀ a, (![0, o] : Fin 2 → ℕ) a + (![1024, 256] : Fin 2 → ℕ) a ≤ S1024x2816.size a) (y : S1024x2816.Idx)
    (h : o ≤ (y 1 : ℕ) ∧ (y 1 : ℕ) < o + 256) : y ∈ (Rect.unit (s := S1024x2816) ![0, o] ![1024, 256] i0).set := by
  refine (Rect.unit (s := S1024x2816) ![0, o] ![1024, 256] i0).mem_set.mpr fun a => ?_
  fin_cases a
  · exact ⟨y 0, (y 0).isLt, by simp [Rect.unit]⟩
  · exact ⟨(y 1 : ℕ) - o, by show (y 1 : ℕ) - o < 256; omega, by show (y 1 : ℕ) = o + 1 * ((y 1 : ℕ) - o); omega⟩

theorem tile_emb (x0 : Vec Ideal S1024x1024 .f32) (x1 : Vec Ideal S1x1024 .f32) (x2 : Vec Ideal S1024x5632 .bf16) (o o' : ℕ) (ho' : o' = 2816 + o)
    (i0 : ∀ a, (![0, o] : Fin 2 → ℕ) a + (![1024, 256] : Fin 2 → ℕ) a ≤ S1024x2816.size a)
    (i1 : ∀ a, (![0, o] : Fin 2 → ℕ) a + (![1024, 256] : Fin 2 → ℕ) a ≤ S1024x5632.size a)
    (i2 : ∀ a, (![0, o'] : Fin 2 → ℕ) a + (![1024, 256] : Fin 2 → ℕ) a ≤ S1024x5632.size a)
    (x : (Rect.unit (s := S1024x2816) ![0, o] ![1024, 256] i0).shape.Idx) :
    k0_pay8 (F := Ideal) (k0_pay4 x0 x1) (View.ld x2 (Rect.unit ![0, o] ![1024, 256] i1)) (View.ld x2 (Rect.unit ![0, o'] ![1024, 256] i2)) x
      = hidV x0 x1 x2 ((Rect.unit (s := S1024x2816) ![0, o] ![1024, 256] i0).emb x) :=
  tile_at x0 x1 x2 o o' ho' i1 i2 x _ (by show 0 + 1 * (x 0 : ℕ) = x 0; omega) (by show o + 1 * (x 1 : ℕ) = o + x 1; omega)

variable (m : (ℓ : Loc nD τ sig) → Buf (Elt Ideal) ℓ)

theorem scratch (c : Dev nD) (t : Fin cfg0.N) (a b : Fin 1024) :
    outsAt0 m c t (ix2 a b) = k0_pay2 (k0_pay3 (iblk m c 0 t)) (hidV (iblk m c 0 t) (iblk m c 1 t) (iblk m c 2 t)) (iblk m c 3 t) (iblk m c 4 t) (ix2 a b) := by
  unfold outsAt0
  frame_out
  rw [View.readCov_eq_canon']
  simp only [pay5_eq, pay7_eq, pay9_eq, pay10_eq, pay11_eq, pay13_eq, pay14_eq, pay16_eq, pay17_eq, pay18_eq]
  refine congrArg (fun s => k0_pay2 (F := Ideal) _ s _ _ (ix2 a b)) ?_
  generalize iblk m c 0 t = x0, iblk m c 1 t = x1, iblk m c 2 t = x2
  refine (View.ld_unit_zero (S := S1024x2816) (off := ![0, 0]) (by funext a; fin_cases a <;> rfl) inb_S1024x2816_S1024x2816_0_0 _).trans ?_
  funext y
  refine canon_step _ _ _ _ _ (tile_emb x0 x1 x2 2560 5376 rfl _ _ _) fun n10 => ?_
  refine canon_step _ _ _ _ _ (tile_emb x0 x1 x2 2304 5120 rfl _ _ _) fun n9 => ?_
  refine canon_step _ _ _ _ _ (tile_emb x0 x1 x2 2048 4864 rfl _ _ _) fun n8 => ?_
  refine canon_step _ _ _ _ _ (tile_emb x0 x1 x2 1792 4608 rfl _ _ _) fun n7 => ?_
  refine canon_step _ _ _ _ _ (tile_emb x0 x1 x2 1536 4352 rfl _ _ _) fun n6 => ?_
  refine canon_step _ _ _ _ _ (tile_emb x0 x1 x2 1280 4096 rfl _ _ _) fun n5 => ?_
  refine canon_step _ _ _ _ _ (tile_emb x0 x1 x2 1024 3840 rfl _ _ _) fun n4 => ?_
  refine canon_step _ _ _ _ _ (tile_emb x0 x1 x2 768 3584 rfl _ _ _) fun n3 => ?_
  refine canon_step _ _ _ _ _ (tile_emb x0 x1 x2 512 3328 rfl _ _ _) fun n2 => ?_
  refine canon_step _ _ _ _ _ (tile_emb x0 x1 x2 256 3072 rfl _ _ _) fun n1 => ?_
  refine canon_step _ _ _ _ _ (tile_emb x0 x1 x2 0 2816 rfl _ _ _) fun n0 => ?_
  have hy : (y 1 : ℕ) < 2816 := (y 1).isLt
  have m10 : ¬(2560 ≤ (y 1 : ℕ) ∧ (y 1 : ℕ) < 2560 + 256) := fun h => n10 (mem_tile 2560 _ y h)
  have m9 : ¬(2304 ≤ (y 1 : ℕ) ∧ (y 1 : ℕ) < 2304 + 256) := fun h => n9 (mem_tile 2304 _ y h)
  have m8 : ¬(2048 ≤ (y 1 : ℕ) ∧ (y 1 : ℕ) < 2048 + 256) := fun h => n8 (mem_tile 2048 _ y h)
  have m7 : ¬(1792 ≤ (y 1 : ℕ) ∧ (y 1 : ℕ) < 1792 + 256) := fun h => n7 (mem_tile 1792 _ y h)
  have m6 : ¬(1536 ≤ (y 1 : ℕ) ∧ (y 1 : ℕ) < 1536 + 256) := fun h => n6 (mem_tile 1536 _ y h)
  have m5 : ¬(1280 ≤ (y 1 : ℕ) ∧ (y 1 : ℕ) < 1280 + 256) := fun h => n5 (mem_tile 1280 _ y h)
  have m4 : ¬(1024 ≤ (y 1 : ℕ) ∧ (y 1 : ℕ) < 1024 + 256) := fun h => n4 (mem_tile 1024 _ y h)
  have m3 : ¬(768 ≤ (y 1 : ℕ) ∧ (y 1 : ℕ) < 768 + 256) := fun h => n3 (mem_tile 768 _ y h)
  have m2 : ¬(512 ≤ (y 1 : ℕ) ∧ (y 1 : ℕ) < 512 + 256) := fun h => n2 (mem_tile 512 _ y h)
  have m1 : ¬(256 ≤ (y 1 : ℕ) ∧ (y 1 : ℕ) < 256 + 256) := fun h => n1 (mem_tile 256 _ y h)
  have m0 : ¬(0 ≤ (y 1 : ℕ) ∧ (y 1 : ℕ) < 0 + 256) := fun h => n0 (mem_tile 0 _ y h)
  omega

/-- What a grid point leaves in its output block: row by row the normalised half-step. -/
theorem point (c : Dev nD) (t : Fin cfg0.N) (a b : Fin 1024) :
    outsAt0 m c t (ix2 a b) = nrm (half (fun k => iblk m c 0 t (ix2 a k)) (fun k => iblk m c 1 t (ix2 0 k)) (fun k f => iblk m c 2 t (ix2 k f)) (fun f j => iblk m c 3 t (ix2 f j)))
      (fun k => iblk m c 4 t (ix2 0 k)) b := by
  rw [scratch, pay2_at]
  unfold half
  simp only [pay3_at, hidV_at]

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] := (by decide +kernel : ∀ t : Fin grid0.N, _)

/-- The whole output as mathematics over the five argument arrays. -/
def spec (X : Vec Ideal S4x4096x1024 .f32) (g : Vec Ideal S1x1024 .f32) (w : Vec Ideal S1x1024x5632 .f32) (o : Vec Ideal S1x2816x1024 .f32)
    (fg : Vec Ideal S1024 .f32) : Vec Ideal S16384x1024 .f32 := fun i =>
  nrm (half (fun k => X (ix3 (⟨(i 0).val / 4096, by have h : (i 0).val < 16384 := (i 0).isLt; omega⟩ : Fin 4) (⟨(i 0).val % 4096, by omega⟩ : Fin 4096) k))
    (fun k => g (ix2 0 k)) (fun k f => w (ix3 0 k f)) (fun f j => o (ix3 0 f j))) (fun k => fg (ix1 k)) (i 1)

theorem read0 (c : Dev nD) (t : Fin cfg0.N) (a k : Fin 1024) (j : S16384x1024.Idx) (hj : (j 0 : ℕ) = t.val * 1024 + a.val) :
    (iblk m c 0 t (ix2 a k) : EReal) = m ((c : Thread nD τ).loc main_arg0) (ix3 (⟨(j 0).val / 4096, by have h : (j 0).val < 16384 := (j 0).isLt; omega⟩ : Fin 4) (⟨(j 0).val % 4096, by omega⟩ : Fin 4096) k) := by
  blk_point [iblk, V, idx t]

theorem read1 (c : Dev nD) (t : Fin cfg0.N) (k : Fin 1024) :
    (iblk m c 1 t (ix2 0 k) : EReal) = m ((c : Thread nD τ).loc main_arg1) (ix2 0 k) := by
  blk_point [iblk, V, idx t]

theorem read2 (c : Dev nD) (t : Fin cfg0.N) (k : Fin 1024) (f : Fin 5632) :
    (iblk m c 2 t (ix2 k f) : EReal) = m ((c : Thread nD τ).loc main_arg2) (ix3 0 k f) := by
  blk_point [iblk, V, idx t]

theorem read3 (c : Dev nD) (t : Fin cfg0.N) (f : Fin 2816) (j : Fin 1024) :
    (iblk m c 3 t (ix2 f j) : EReal) = m ((c : Thread nD τ).loc main_arg3) (ix3 0 f j) := by
  blk_point [iblk, V, idx t]

theorem read4 (c : Dev nD) (t : Fin cfg0.N) (k : Fin 1024) :
    (iblk m c 4 t (ix2 0 k) : EReal) = m ((c : Thread nD τ).loc main_arg4) (ix1 k) := by
  blk_point [iblk, V, idx t]

theorem final (c : Dev nD) : (dats m 0 c).arrAt 5 (cfgs 0).N
    = spec (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨a, b, rfl⟩ : ∃ (a : Fin 1024) (b : Fin 1024), y = (ix2 a b : S1024x1024.Idx) := ⟨y 0, y 1, by funext a; fin_cases a <;> rfl⟩
  refine (point m c t a b).trans ?_
  have e0 : ((((cfg0.win 5).blk t).view.emb (ix2 a b) 0 : Fin _) : ℕ) = t.val * 1024 + a.val := by
    blk_simp [idx t]
  have e1 : (((cfg0.win 5).blk t).view.emb (ix2 a b) 1 : Fin _) = b := by
    apply Fin.ext
    blk_simp [idx t]
  change _ = nrm _ _ (((cfg0.win 5).blk t).view.emb (ix2 a b) 1)
  simp only [read1, read2, read3, read4, fun k => read0 m c t a k (((cfg0.win 5).blk t).view.emb (ix2 a b)) e0]
  rw [e1]

end Cert.Ffn
end
-- ==== Proof.FfnRef.lean ====
module

public import proofs.«01_k».proof.Proof.Ffn

@[expose] public section
set_option maxRecDepth 16384
noncomputable section
open Idealize.ShloMosaic Idealize.ShloMosaic.TcCoe Idealize.SL.Sem
namespace Cert.Ffn
open Cert.Reference2Ideal Cert.Reference2Ideal.Gen Cert.Reference2Ideal.Read

section
variable (x0 : FVec Ideal S4x4096x1024 .f32) (x1 : FVec Ideal S1x1024 .f32) (x2 : FVec Ideal S1x1024x5632 .f32) (x3 : FVec Ideal S1x2816x1024 .f32) (x4 : FVec Ideal S1024 .f32)
  (p : Fin 4) (q : Fin 4096)

theorem r13 (k : Fin 1024) : val_main_v13 (F := Ideal) x0 x1 (ix3 p q k) = nrm (fun k => x0 (ix3 p q k)) (fun k => x1 (ix2 0 k)) k := by
  unfold nrm
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem r16 (f : Fin 5632) : val_main_v16 (F := Ideal) x0 x1 x2 (ix3 p q f) = ∑ k, nrm (fun k => x0 (ix3 p q k)) (fun k => x1 (ix2 0 k)) k * x2 (ix3 0 k f) := by
  pointwise [val_main_v16, val_main_v14]
  simp only [r13]

theorem r20 (f : Fin 2816) : val_main_v20 (F := Ideal) x0 x1 x2 (ix3 p q f) = hid (fun k => x0 (ix3 p q k)) (fun k => x1 (ix2 0 k)) (fun k f => x2 (ix3 0 k f)) f := by
  unfold hid act
  pointwise [val_main_v20, val_main_v19, val_main_call0_v5, val_main_call0_v4, val_main_call0_cst_0, val_main_call0_v3, val_main_call0_v2, val_main_call0_cst, val_main_call0_v1, val_main_call0_v0, val_main_v18, val_main_v17]
  simp only [r16]

theorem r24 (j : Fin 1024) : val_main_v24 (F := Ideal) x0 x1 x2 x3 (ix3 p q j) = half (fun k => x0 (ix3 p q k)) (fun k => x1 (ix2 0 k)) (fun k f => x2 (ix3 0 k f)) (fun f j => x3 (ix3 0 f j)) j := by
  unfold half
  pointwise [val_main_v24, val_main_v23, val_main_v22, val_main_v21, val_main_cst_2, val_main_v15]
  simp only [r20]

theorem r37 (j : Fin 1024) : val_main_v37 (F := Ideal) x0 x1 x2 x3 x4 (ix3 p q j)
    = nrm (half (fun k => x0 (ix3 p q k)) (fun k => x1 (ix2 0 k)) (fun k f => x2 (ix3 0 k f)) (fun f j => x3 (ix3 0 f j))) (fun k => x4 (ix1 k)) j := by
  unfold nrm
  pointwise [val_main_v37, val_main_v36, val_main_v35, val_main_v34, val_main_v33, val_main_v32, val_main_v31, val_main_v30, val_main_v29, val_main_v28, val_main_v27, val_main_v26, val_main_v25, val_main_cst_3, val_main_cst_4, val_main_cst_5]
  simp only [r24]

theorem r38 : val_main_v38 (F := Ideal) x0 x1 x2 x3 x4 = spec x0 x1 x2 x3 x4 := by
  funext i
  rw [val_main_v38_apply]
  have h0 : (i 0).val < 16384 := (i 0).isLt
  have h1 : (i 1).val < 1024 := (i 1).isLt
  have hi : idx_main_v38 i = ix3 (⟨(i 0).val / 4096, by omega⟩ : Fin 4) (⟨(i 0).val % 4096, by omega⟩ : Fin 4096) (i 1) := by
    funext a
    apply Fin.ext
    fin_cases a
    · show ((i 0).val * 1024 + (i 1).val) / 4194304 = (i 0).val / 4096; omega
    · show ((i 0).val * 1024 + (i 1).val) / 1024 % 4096 = (i 0).val % 4096; omega
    · show ((i 0).val * 1024 + (i 1).val) % 1024 = (i 1).val; omega
  rw [hi]
  exact r37 x0 x1 x2 x3 x4 _ _ _
end

/-- The last feed-forward and the final norm: kernel and reference leave the same array. -/
theorem algebraic : Cert.algebraic_Kernel2Ideal_Reference2Ideal := by
  intro m g m' g' _ hagree
  refine ⟨fun c => spec (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · refine (θ_run Cert.Kernel2Ideal.defs _ _).mono (fun r h c => ?_) (Cert.Kernel2Ideal.Value.run_blocks m g)
    exact ⟨(h c).1.trans (final m c), (h c).2⟩
  · refine (θ_run Cert.Reference2Ideal.defs _ _).mono (fun r h c => ?_) (Cert.Reference2Ideal.Value.run (F := Ideal) m' g')
    refine ⟨(h c).1.trans ((val_main_v38_eq m' c).trans ((r38 _ _ _ _ _).trans ?_)), (h c).2⟩
    obtain ⟨h0, h1, h2, h3, h4⟩ := hagree c
    exact congr (congr (congr (congr (congrArg spec h0) h1) h2) h3) h4

end Cert.Ffn
end
-- ==== Proof.First.lean ====
module

public import proofs.«01_k».proof.Proof.Gen.Kernel3Ideal.Skeleton
public import proofs.«01_k».proof.Proof.Gen.Kernel3Ideal.Frame

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body run once -/

set_option maxHeartbeats 4000000 in
/-- One call of the body, from the input blocks it reads and anything in the other buffers: the pieces it stores in
    each of its output blocks. -/
def bodyRun (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) :
    Σ' (L12 : List (View.Piece (Elt F) S512x1024 .f32)), Σ' (L13 : List (View.Piece (Elt F) S1024x128 .bf16)), Σ' (L14 : List (View.Piece (Elt F) S1024x128 .bf16)), Σ' (L15 : List (View.Piece (Elt F) S1024x128 .bf16)), Σ' (L16 : List (View.Piece (Elt F) S32x1024 .bf16)), Σ' (L17 : List (View.Piece (Elt F) S32x5632 .bf16)), Σ' (L18 : List (View.Piece (Elt F) S176x1024 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ d, owns (c : Thread nD τ) arg20 fullShare d)) -∗ K ⟨⟩))
          ⊢ wp frame (wpE (defs₀ (F := F)) Variants.none c none) E (cc0_ffn_cast i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine ⟨?_, ?_, ?_, ?_, ?_, ?_, ?_, fun E K => ?run⟩
  case run =>
    simp only [cc0_ffn_cast_eq_skeleton]; unfold cc0_ffn_cast_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexists _; isplitr
      swap; · iexact H4
      ipureintro; rfl
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexists _; isplitr
    swap; · iexact H19
    ipureintro; rfl

/-! ## The proof data -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5632 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2816x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x5632 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S176x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S32x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S32x5632 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S176x1024 .bf16 := win0_18.stage (cfg0.slots t 18)
abbrev hs0_18 (t : Fin cfg0.N) : (ms0_18 t).IsWhole := hstage0_18 ((cfg0.slots t 18).cast nbuf0_18)
abbrev scM0_0 : Memref sig .tc .vmem S512x2816 .bf16 := Memref.whole cc0_scratch0

abbrev VO0_12 : View sig .tc .vmem S512x1024 .f32 := (Memref.whole cc0_stg12_0 : Memref sig .tc .vmem S512x1024 .f32).view
abbrev VO0_13 : View sig .tc .vmem S1024x128 .bf16 := (Memref.whole cc0_stg13_0 : Memref sig .tc .vmem S1024x128 .bf16).view
abbrev VO0_14 : View sig .tc .vmem S1024x128 .bf16 := (Memref.whole cc0_stg14_0 : Memref sig .tc .vmem S1024x128 .bf16).view
abbrev VO0_15 : View sig .tc .vmem S1024x128 .bf16 := (Memref.whole cc0_stg15_0 : Memref sig .tc .vmem S1024x128 .bf16).view
abbrev VO0_16 : View sig .tc .vmem S32x1024 .bf16 := (Memref.whole cc0_stg16_0 : Memref sig .tc .vmem S32x1024 .bf16).view
abbrev VO0_17 : View sig .tc .vmem S32x5632 .bf16 := (Memref.whole cc0_stg17_0 : Memref sig .tc .vmem S32x5632 .bf16).view
abbrev VO0_18 : View sig .tc .vmem S176x1024 .bf16 := (Memref.whole cc0_stg18_0 : Memref sig .tc .vmem S176x1024 .bf16).view

/-- The launch's invariant with the scratch buffer named. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

/-- The pieces stored in output block 12 cover it. -/
theorem cover12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) (y : S512x1024.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).1 S512x1024.size (by sl_kernel_rfl) y

/-- What a run leaves in output block 12: its pieces read back. -/
def outRun12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) : Vec F S512x1024 .f32 :=
  VO0_12.read (Elt F) (VO0_12.writes (Elt F) VO0_12.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).1)

/-- The pieces stored in output block 13 cover it. -/
theorem cover13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.1 S1024x128.size (by sl_kernel_rfl) y

/-- What a run leaves in output block 13: its pieces read back. -/
def outRun13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) : Vec F S1024x128 .bf16 :=
  VO0_13.read (Elt F) (VO0_13.writes (Elt F) VO0_13.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.1)

/-- The pieces stored in output block 14 cover it. -/
theorem cover14 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.1 S1024x128.size (by sl_kernel_rfl) y

/-- What a run leaves in output block 14: its pieces read back. -/
def outRun14 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) : Vec F S1024x128 .bf16 :=
  VO0_14.read (Elt F) (VO0_14.writes (Elt F) VO0_14.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.1)

/-- The pieces stored in output block 15 cover it. -/
theorem cover15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.1 S1024x128.size (by sl_kernel_rfl) y

/-- What a run leaves in output block 15: its pieces read back. -/
def outRun15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) : Vec F S1024x128 .bf16 :=
  VO0_15.read (Elt F) (VO0_15.writes (Elt F) VO0_15.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.1)

/-- The pieces stored in output block 16 cover it. -/
theorem cover16 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) (y : S32x1024.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.1 S32x1024.size (by sl_kernel_rfl) y

/-- What a run leaves in output block 16: its pieces read back. -/
def outRun16 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) : Vec F S32x1024 .bf16 :=
  VO0_16.read (Elt F) (VO0_16.writes (Elt F) VO0_16.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.1)

/-- The pieces stored in output block 17 cover it. -/
theorem cover17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) (y : S32x5632.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.2.1 S32x5632.size (by sl_kernel_rfl) y

/-- What a run leaves in output block 17: its pieces read back. -/
def outRun17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) : Vec F S32x5632 .bf16 :=
  VO0_17.read (Elt F) (VO0_17.writes (Elt F) VO0_17.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.2.1)

/-- The pieces stored in output block 18 cover it. -/
theorem cover18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) (y : S176x1024.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.2.2.1 S176x1024.size (by sl_kernel_rfl) y

/-- What a run leaves in output block 18: its pieces read back. -/
def outRun18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .f32) (harg3 : arg3.IsWhole) (arg4 : Memref sig .tc .vmem S2816x1024 .f32) (harg4 : arg4.IsWhole) (arg5 : Memref sig .tc .vmem S1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x8x1024 .f32) (harg9 : arg9.IsWhole) (arg10 : Memref sig .tc .vmem S32x1024 .f32) (harg10 : arg10.IsWhole) (arg11 : Memref sig .tc .vmem S32x5632 .f32) (harg11 : arg11.IsWhole) (arg12 : Memref sig .tc .vmem S176x1024 .f32) (harg12 : arg12.IsWhole) (arg13 : Memref sig .tc .vmem S512x1024 .f32) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S32x1024 .bf16) (harg17 : arg17.IsWhole) (arg18 : Memref sig .tc .vmem S32x5632 .bf16) (harg18 : arg18.IsWhole) (arg19 : Memref sig .tc .vmem S176x1024 .bf16) (harg19 : arg19.IsWhole) (arg20 : Memref sig .tc .vmem S512x2816 .bf16) (harg20 : arg20.IsWhole)
    (x0 : Vec F S512x1024 .f32) (x1 : Vec F S1x1024 .f32) (x2 : Vec F S1024x5632 .f32) (x3 : Vec F S2816x1024 .f32) (x5 : Vec F S1x128x1024 .f32) (x6 : Vec F S1x128x1024 .f32) (x7 : Vec F S1x128x1024 .f32) (x8 : Vec F S1x8x1024 .f32) (x9 : Vec F S32x1024 .f32) (x10 : Vec F S32x5632 .f32) (x11 : Vec F S176x1024 .f32) : Vec F S176x1024 .bf16 :=
  VO0_18.read (Elt F) (VO0_18.writes (Elt F) VO0_18.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x5 x6 x7 x8 x9 x10 x11).2.2.2.2.2.2.1)

end Cert.First

end
-- ==== Proof.FirstRun.lean ====
module

public import proofs.«01_k».proof.Proof.First
public import Idealize.ShloMosaic.Lib.Pipeline.ValueKit
public import proofs.«01_k».proof.Proof.Gen.Kernel3Ideal.Skeleton
public import proofs.«01_k».proof.Proof.Gen.Kernel3Ideal.Frame

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every point at least the first eight rows of the cut block lie inside the array. -/
theorem xsize7 : ∀ t : Fin cfg0.N, ∀ a, (![1, 8, 1024] : Fin 3 → ℕ) a ≤ (cfg0.win 7).xsize (cfg0.grid.coords t) a := by decide +kernel

theorem moved7 (t : Fin cfg0.N) (j : S1x128x1024.Idx) (h : (j 1 : ℕ) < 8) : (cfg0.win 7).moved (cfg0.grid.coords t) j = true :=
  ((cfg0.win 7).moved_iff _ j).mpr fun a => by
    refine lt_of_lt_of_le ?_ (xsize7 t a)
    have h0 : (j 0 : ℕ) < 1 := (j 0).isLt
    have h2 : (j 2 : ℕ) < 1024 := (j 2).isLt
    fin_cases a
    · exact h0
    · exact h
    · exact h2

theorem fill7 (t : Fin cfg0.N) (d d' : (cfg0.win 7).block.Idx → Elt F (cfg0.win 7).elt) (g) (j : S1x128x1024.Idx) (h : (j 1 : ℕ) < 8) :
    (cfg0.win 7).fill (cfg0.grid.coords t) d g j = (cfg0.win 7).fill (cfg0.grid.coords t) d' g j := by
  unfold Pipeline.Window.fill; rw [dif_pos (moved7 t j h), dif_pos (moved7 t j h)]

/-- The one block that is cut at the array's end, at a point, its missing rows at a default. -/
def X0_7 (c : Dev nD) (t : Fin cfg0.N) : (cfg0.win 7).block.Idx → Elt F (cfg0.win 7).elt :=
  (cfg0.win 7).fill (cfg0.grid.coords t) (fun _ => Classical.choice inferInstance) (iblk m c 7 t)

/-- Output block 12 after the body at point `t`. -/
def out12 (c : Dev nD) (t : Fin cfg0.N) : Vec F S512x1024 .f32 :=
  outRun12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) (X0_7 m c t) (iblk m c 8 t) (iblk m c 9 t) (iblk m c 10 t) (iblk m c 11 t)

/-- Output block 13 after the body at point `t`. -/
def out13 (c : Dev nD) (t : Fin cfg0.N) : Vec F S1024x128 .bf16 :=
  outRun13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) (X0_7 m c t) (iblk m c 8 t) (iblk m c 9 t) (iblk m c 10 t) (iblk m c 11 t)

/-- Output block 14 after the body at point `t`. -/
def out14 (c : Dev nD) (t : Fin cfg0.N) : Vec F S1024x128 .bf16 :=
  outRun14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) (X0_7 m c t) (iblk m c 8 t) (iblk m c 9 t) (iblk m c 10 t) (iblk m c 11 t)

/-- Output block 15 after the body at point `t`. -/
def out15 (c : Dev nD) (t : Fin cfg0.N) : Vec F S1024x128 .bf16 :=
  outRun15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) (X0_7 m c t) (iblk m c 8 t) (iblk m c 9 t) (iblk m c 10 t) (iblk m c 11 t)

/-- Output block 16 after the body at point `t`. -/
def out16 (c : Dev nD) (t : Fin cfg0.N) : Vec F S32x1024 .bf16 :=
  outRun16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) (X0_7 m c t) (iblk m c 8 t) (iblk m c 9 t) (iblk m c 10 t) (iblk m c 11 t)

/-- Output block 17 after the body at point `t`. -/
def out17 (c : Dev nD) (t : Fin cfg0.N) : Vec F S32x5632 .bf16 :=
  outRun17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) (X0_7 m c t) (iblk m c 8 t) (iblk m c 9 t) (iblk m c 10 t) (iblk m c 11 t)

/-- Output block 18 after the body at point `t`. -/
def out18 (c : Dev nD) (t : Fin cfg0.N) : Vec F S176x1024 .bf16 :=
  outRun18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) (X0_7 m c t) (iblk m c 8 t) (iblk m c 9 t) (iblk m c 10 t) (iblk m c 11 t)

/-- The only window whose contents the proof says nothing about: an input the body does not read. -/
abbrev fgt : Fin cfg0.W → Bool := fun w => w.val == 4

/-- The proof data: the inputs keep their blocks, the outputs are left at `out12` to `out18`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.choice inferInstance
    | ⟨5, _⟩ => X0_5 m c t
    | ⟨6, _⟩ => X0_6 m c t
    | ⟨7, _⟩ => X0_7 m c t
    | ⟨8, _⟩ => iblk m c 8 t
    | ⟨9, _⟩ => iblk m c 9 t
    | ⟨10, _⟩ => iblk m c 10 t
    | ⟨11, _⟩ => iblk m c 11 t
    | ⟨12, _⟩ => out12 m c t
    | ⟨13, _⟩ => out13 m c t
    | ⟨14, _⟩ => out14 m c t
    | ⟨15, _⟩ => out15 m c t
    | ⟨16, _⟩ => out16 m c t
    | ⟨17, _⟩ => out17 m c t
    | ⟨18, _⟩ => out18 m c t
    | ⟨_ + 19, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out12 m c t := by dsimp only [dats]
theorem after0_13 (c : Dev nD) (t : Fin cfg0.N) : (dats m 0 c).after 13 t = out13 m c t := by dsimp only [dats]
theorem after0_14 (c : Dev nD) (t : Fin cfg0.N) : (dats m 0 c).after 14 t = out14 m c t := by dsimp only [dats]
theorem after0_15 (c : Dev nD) (t : Fin cfg0.N) : (dats m 0 c).after 15 t = out15 m c t := by dsimp only [dats]
theorem after0_16 (c : Dev nD) (t : Fin cfg0.N) : (dats m 0 c).after 16 t = out16 m c t := by dsimp only [dats]
theorem after0_17 (c : Dev nD) (t : Fin cfg0.N) : (dats m 0 c).after 17 t = out17 m c t := by dsimp only [dats]
theorem after0_18 (c : Dev nD) (t : Fin cfg0.N) : (dats m 0 c).after 18 t = out18 m c t := by dsimp only [dats]
theorem fetch7 : ∀ t : Fin cfg0.N, (cfg0.win 7).fetch t = true := by decide +kernel
theorem before0_7 (c : Dev nD) (t : Fin cfg0.N) (d) : (dats m 0 c).before 7 t d = (cfg0.win 7).fill (cfg0.grid.coords t) d (iblk m c 7 t) := by
  unfold Dat.before
  rw [fetch7 t]
  rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- What lies beyond the cut block's end does not change output block 12. -/
theorem out12_cut (c : Dev nD) (t : Fin cfg0.N) (d) :
    outRun12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d (iblk m c 7 t)) (iblk m c 8 t) (iblk m c 9 t) (iblk m c 10 t) (iblk m c 11 t) = out12 m c t := by
  unfold out12 outRun12
  frame_out

/-- What lies beyond the cut block's end does not change output block 13. -/
theorem out13_cut (c : Dev nD) (t : Fin cfg0.N) (d) :
    outRun13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d (iblk m c 7 t)) (iblk m c 8 t) (iblk m c 9 t) (iblk m c 10 t) (iblk m c 11 t) = out13 m c t := by
  unfold out13 outRun13
  frame_out

/-- The rows of the cut block that the body reads are inside the array: what lies beyond does not change the block stored. -/
theorem out14_cut (c : Dev nD) (t : Fin cfg0.N) (d) :
    outRun14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d (iblk m c 7 t)) (iblk m c 8 t) (iblk m c 9 t) (iblk m c 10 t) (iblk m c 11 t) = out14 m c t := by
  unfold out14 outRun14
  frame_out
  refine congrArg (k0_pay4 _) (funext fun y => ?_)
  rw [View.ld_apply, View.ld_apply]
  unfold X0_7
  exact fill7 t _ _ _ _ (by
    show 0 + 1 * (y 1 : ℕ) < 8
    have h : (y 1 : ℕ) < 8 := (y 1).isLt
    omega)

/-- What lies beyond the cut block's end does not change output block 15. -/
theorem out15_cut (c : Dev nD) (t : Fin cfg0.N) (d) :
    outRun15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d (iblk m c 7 t)) (iblk m c 8 t) (iblk m c 9 t) (iblk m c 10 t) (iblk m c 11 t) = out15 m c t := by
  unfold out15 outRun15
  frame_out

/-- What lies beyond the cut block's end does not change output block 16. -/
theorem out16_cut (c : Dev nD) (t : Fin cfg0.N) (d) :
    outRun16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d (iblk m c 7 t)) (iblk m c 8 t) (iblk m c 9 t) (iblk m c 10 t) (iblk m c 11 t) = out16 m c t := by
  unfold out16 outRun16
  frame_out

/-- What lies beyond the cut block's end does not change output block 17. -/
theorem out17_cut (c : Dev nD) (t : Fin cfg0.N) (d) :
    outRun17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d (iblk m c 7 t)) (iblk m c 8 t) (iblk m c 9 t) (iblk m c 10 t) (iblk m c 11 t) = out17 m c t := by
  unfold out17 outRun17
  frame_out

/-- What lies beyond the cut block's end does not change output block 18. -/
theorem out18_cut (c : Dev nD) (t : Fin cfg0.N) (d) :
    outRun18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d (iblk m c 7 t)) (iblk m c 8 t) (iblk m c 9 t) (iblk m c 10 t) (iblk m c 11 t) = out18 m c t := by
  unfold out18 outRun18
  frame_out

/-- What the body is called with at point `t`, -/
def pre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare d) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)))

/-- and what it returns. -/
def post (c : Dev nD) (t : Fin cfg0.N) : sProp 𝕄 :=
  iprop((dats m 0 c).Φ t.succ ∗ (dats m 0 c).owesAt () t.succ ∗ (owns (c : Thread nD τ) (ms0_0 t) fullShare ((dats m 0 c).after 0 t)) ∗ (owns (c : Thread nD τ) (ms0_1 t) fullShare ((dats m 0 c).after 1 t)) ∗ (owns (c : Thread nD τ) (ms0_2 t) fullShare ((dats m 0 c).after 2 t)) ∗ (owns (c : Thread nD τ) (ms0_3 t) fullShare ((dats m 0 c).after 3 t)) ∗ (∃ d, owns (c : Thread nD τ) (ms0_4 t) fullShare d) ∗ (∃ d, owns (c : Thread nD τ) (ms0_5 t) fullShare ((cfg0.win 5).fill (cfg0.grid.coords t) d ((cfg0.win 5).cut (cfg0.grid.coords t) ((dats m 0 c).after 5 t)))) ∗ (∃ d, owns (c : Thread nD τ) (ms0_6 t) fullShare ((cfg0.win 6).fill (cfg0.grid.coords t) d ((cfg0.win 6).cut (cfg0.grid.coords t) ((dats m 0 c).after 6 t)))) ∗ (∃ d, owns (c : Thread nD τ) (ms0_7 t) fullShare ((cfg0.win 7).fill (cfg0.grid.coords t) d ((cfg0.win 7).cut (cfg0.grid.coords t) ((dats m 0 c).after 7 t)))) ∗ (owns (c : Thread nD τ) (ms0_8 t) fullShare ((dats m 0 c).after 8 t)) ∗ (owns (c : Thread nD τ) (ms0_9 t) fullShare ((dats m 0 c).after 9 t)) ∗ (owns (c : Thread nD τ) (ms0_10 t) fullShare ((dats m 0 c).after 10 t)) ∗ (owns (c : Thread nD τ) (ms0_11 t) fullShare ((dats m 0 c).after 11 t)) ∗ (owns (c : Thread nD τ) (ms0_12 t) fullShare ((dats m 0 c).after 12 t)) ∗ (owns (c : Thread nD τ) (ms0_13 t) fullShare ((dats m 0 c).after 13 t)) ∗ (owns (c : Thread nD τ) (ms0_14 t) fullShare ((dats m 0 c).after 14 t)) ∗ (owns (c : Thread nD τ) (ms0_15 t) fullShare ((dats m 0 c).after 15 t)) ∗ (owns (c : Thread nD τ) (ms0_16 t) fullShare ((dats m 0 c).after 16 t)) ∗ (owns (c : Thread nD τ) (ms0_17 t) fullShare ((dats m 0 c).after 17 t)) ∗ (owns (c : Thread nD τ) (ms0_18 t) fullShare ((dats m 0 c).after 18 t)))

attribute [local irreducible] bodyRun in
theorem sound (c : Dev nD) (t : Fin cfg0.N) :
    pre m c t ⊢ wp frame (wpE (defs₀ (F := F)) Variants.none c none) Set.univ (bodyAt0 t) (fun _ => post m c t) := by
  unfold pre post bodyAt0
  simp only [before0_0, before0_1, before0_2, before0_3, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d7 (iblk m c 7 t)) (iblk m c 8 t) (iblk m c 9 t) (iblk m c 10 t) (iblk m c 11 t)).2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists (X0_5 m c t); rw [Pipeline.Window.fill_cut]; iexact H5
  isplitl [H6]; · iexists (X0_6 m c t); rw [Pipeline.Window.fill_cut]; iexact H6
  isplitl [H7]; · iexists d7; unfold X0_7; rw [Pipeline.Window.cut_fill]; iexact H7
  isplitl [H8]; · iexact H8
  isplitl [H9]; · iexact H9
  isplitl [H10]; · iexact H10
  isplitl [H11]; · iexact H11
  isplitl [H12]
  · unfold owns; iexists _; isplitr
    swap; · iexact H12
    ipureintro; exact (View.read_writes_of_cover _ _ _ _ _ (cover12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d7 (iblk m c 7 t)) (iblk m c 8 t) (iblk m c 9 t) (iblk m c 10 t) (iblk m c 11 t))).trans (out12_cut m c t d7)
  isplitl [H13]
  · unfold owns; iexists _; isplitr
    swap; · iexact H13
    ipureintro; exact (View.read_writes_of_cover _ _ _ _ _ (cover13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d7 (iblk m c 7 t)) (iblk m c 8 t) (iblk m c 9 t) (iblk m c 10 t) (iblk m c 11 t))).trans (out13_cut m c t d7)
  isplitl [H14]
  · unfold owns; iexists _; isplitr
    swap; · iexact H14
    ipureintro; exact (View.read_writes_of_cover _ _ _ _ _ (cover14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d7 (iblk m c 7 t)) (iblk m c 8 t) (iblk m c 9 t) (iblk m c 10 t) (iblk m c 11 t))).trans (out14_cut m c t d7)
  isplitl [H15]
  · unfold owns; iexists _; isplitr
    swap; · iexact H15
    ipureintro; exact (View.read_writes_of_cover _ _ _ _ _ (cover15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d7 (iblk m c 7 t)) (iblk m c 8 t) (iblk m c 9 t) (iblk m c 10 t) (iblk m c 11 t))).trans (out15_cut m c t d7)
  isplitl [H16]
  · unfold owns; iexists _; isplitr
    swap; · iexact H16
    ipureintro; exact (View.read_writes_of_cover _ _ _ _ _ (cover16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d7 (iblk m c 7 t)) (iblk m c 8 t) (iblk m c 9 t) (iblk m c 10 t) (iblk m c 11 t))).trans (out16_cut m c t d7)
  isplitl [H17]
  · unfold owns; iexists _; isplitr
    swap; · iexact H17
    ipureintro; exact (View.read_writes_of_cover _ _ _ _ _ (cover17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d7 (iblk m c 7 t)) (iblk m c 8 t) (iblk m c 9 t) (iblk m c 10 t) (iblk m c 11 t))).trans (out17_cut m c t d7)
  unfold owns; iexists _; isplitr
  swap; · iexact H18
  ipureintro; exact (View.read_writes_of_cover _ _ _ _ _ (cover18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (X0_5 m c t) (X0_6 m c t) ((cfg0.win 7).fill (cfg0.grid.coords t) d7 (iblk m c 7 t)) (iblk m c 8 t) (iblk m c 9 t) (iblk m c 10 t) (iblk m c 11 t))).trans (out18_cut m c t d7)

theorem defs₀_row (t : Fin cfg0.N) :
    defs₀ (F := F) .tc cfg0.body (cfg0.bodyArgs t (cfg0.slots t)) = bodyAt0 t := by
  unfold defs₀; rw [Defs.onTc_tc]

theorem obligation (c : Dev nD) : Pipeline.BodyObligationLoose (dats (F := F) m 0 c) (defs₀ (F := F)) Variants.none () Set.univ fgt := fun t => by
  rw [bigSep_W0, bigSep_W0, defs₀_row]
  exact triple_restated (sound m c t) rfl .rfl fun _ => .rfl

/-! ## The run -/

set_option backward.isDefEq.respectTransparency.types false in
/-- The launch, every output named. -/
theorem run : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget_shared (Q' := _) (hQ' := fun _ h => h) cfgs (dats m) (0 : Fin 1) launch₀0 defs₀ Variants.none fgt m ρ main
    (hbody := fun c => obligation m c) (hq := fun _ _ _ => rfl)
    (howed := fun _ _ => rfl) (V := V m) (hmain := hmain m Variants.none) (hA := A_eq m) (hΦ := fun _ _ => rfl)

/-- What the run says of the arguments and of the seven arrays. -/
theorem run_at : θ_run defs (onTc (τ := τ) (main (F := F))) ⟨m, fun _ => 0, ρ⟩ (fun r => (∀ c : Dev nD,
      r.2.mem ((cfg0.win 12).arr.view.loc (c.tc : Thread nD τ)) = (dats m 0 c).arrAt 12 (cfgs 0).N
      ∧ r.2.mem ((cfg0.win 13).arr.view.loc (c.tc : Thread nD τ)) = (dats m 0 c).arrAt 13 (cfgs 0).N
      ∧ r.2.mem ((cfg0.win 14).arr.view.loc (c.tc : Thread nD τ)) = (dats m 0 c).arrAt 14 (cfgs 0).N
      ∧ r.2.mem ((cfg0.win 15).arr.view.loc (c.tc : Thread nD τ)) = (dats m 0 c).arrAt 15 (cfgs 0).N
      ∧ r.2.mem ((cfg0.win 16).arr.view.loc (c.tc : Thread nD τ)) = (dats m 0 c).arrAt 16 (cfgs 0).N
      ∧ r.2.mem ((cfg0.win 17).arr.view.loc (c.tc : Thread nD τ)) = (dats m 0 c).arrAt 17 (cfgs 0).N
      ∧ r.2.mem ((cfg0.win 18).arr.view.loc (c.tc : Thread nD τ)) = (dats m 0 c).arrAt 18 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono ?_ (run m ρ)
  intro r h
  refine ⟨fun c => ?_, h.2⟩
  exact ⟨(Pipeline.Dat.toRForget_arrAt_iff (dats m 0 c) (fgt := fgt) (w := 12) (by decide) _ _).mp ((h.1 c).1 12),
    (Pipeline.Dat.toRForget_arrAt_iff (dats m 0 c) (fgt := fgt) (w := 13) (by decide) _ _).mp ((h.1 c).1 13),
    (Pipeline.Dat.toRForget_arrAt_iff (dats m 0 c) (fgt := fgt) (w := 14) (by decide) _ _).mp ((h.1 c).1 14),
    (Pipeline.Dat.toRForget_arrAt_iff (dats m 0 c) (fgt := fgt) (w := 15) (by decide) _ _).mp ((h.1 c).1 15),
    (Pipeline.Dat.toRForget_arrAt_iff (dats m 0 c) (fgt := fgt) (w := 16) (by decide) _ _).mp ((h.1 c).1 16),
    (Pipeline.Dat.toRForget_arrAt_iff (dats m 0 c) (fgt := fgt) (w := 17) (by decide) _ _).mp ((h.1 c).1 17),
    (Pipeline.Dat.toRForget_arrAt_iff (dats m 0 c) (fgt := fgt) (w := 18) (by decide) _ _).mp ((h.1 c).1 18),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩

end Cert.First

end
-- ==== Proof.FirstVal.lean ====
module

public import proofs.«01_k».proof.Defs
public import proofs.«01_k».proof.Proof.FirstRun
public import proofs.«01_k».proof.Proof.Ffn
public import proofs.«01_k».proof.Proof.Gen.Reference3Ideal.Run
public import proofs.«01_k».proof.Proof.Gen.Reference3Ideal.Read
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.First
open Cert.Kernel3Ideal Cert.Kernel3Ideal.Gen
open Cert.Ffn (nrm act hid half canon_step)

/-! ## The payloads at an index -/

theorem pay8_at (x0 : Vec Ideal S512x1024 .f32) (x1 : Vec Ideal S1x1024 .f32) (a : Fin 512) (b : Fin 1024) :
    k0_pay8 (F := Ideal) x0 x1 (ix2 a b) = nrm (fun k => x0 (ix2 a k)) (fun k => x1 (ix2 0 k)) b := by
  unfold nrm
  pointwise [k0_pay8, k0_pay7]

theorem pay7_at (x0 : Vec Ideal S512x1024 .f32) (a : Fin 512) (b : Fin 1024) : k0_pay7 (F := Ideal) x0 (ix2 a b) = x0 (ix2 a b) := by
  pointwise [k0_pay7]

theorem pay11_at (h : FVec Ideal S512x1024 .bf16) (u v : Vec Ideal S1024x256 .f32) (a : Fin 512) (b : Fin 256) :
    k0_pay11 (F := Ideal) h u v (ix2 a b) = act (∑ x, h (ix2 a x) * u (ix2 x b)) (∑ x, h (ix2 a x) * v (ix2 x b)) := by
  unfold act
  pointwise [k0_pay11]
  simp only [zero_sub]

theorem pay29_at (v33 : FVec Ideal S512x1024 .f32) (v280 : Vec Ideal S512x2816 .bf16) (v281 : Vec Ideal S2816x1024 .f32) (a : Fin 512) (b : Fin 1024) :
    k0_pay29 (F := Ideal) v33 v280 v281 (ix2 a b)
      = v33 (ix2 a b) + Ideal.ofBits FTy.f32 1056964608#32 * ∑ f, v280 (ix2 a f) * v281 (ix2 f b) := by
  pointwise [k0_pay29]

/-! ## The activation array of a block of rows -/

/-- The hidden units of all rows of a block. -/
def hidV (x0 : Vec Ideal S512x1024 .f32) (x1 : Vec Ideal S1x1024 .f32) (x2 : Vec Ideal S1024x5632 .f32) : Vec Ideal S512x2816 .bf16 :=
  fun i => hid (fun k => x0 (ix2 (i 0) k)) (fun k => x1 (ix2 0 k)) (fun k f => x2 (ix2 k f)) (i 1)

theorem hidV_at (x0 : Vec Ideal S512x1024 .f32) (x1 : Vec Ideal S1x1024 .f32) (x2 : Vec Ideal S1024x5632 .f32) (a : Fin 512) (f : Fin 2816) :
    hidV x0 x1 x2 (ix2 a f) = hid (fun k => x0 (ix2 a k)) (fun k => x1 (ix2 0 k)) (fun k f => x2 (ix2 k f)) f := rfl

/-- A tile of 256 hidden units, computed from the two slices of the input weights it reads. -/
theorem tile_at (x0 : Vec Ideal S512x1024 .f32) (x1 : Vec Ideal S1x1024 .f32) (x2 : Vec Ideal S1024x5632 .f32) (o o' : ℕ) (ho' : o' = 2816 + o)
    (i1 : ∀ a, (![0, o] : Fin 2 → ℕ) a + (![1024, 256] : Fin 2 → ℕ) a ≤ S1024x5632.size a)
    (i2 : ∀ a, (![0, o'] : Fin 2 → ℕ) a + (![1024, 256] : Fin 2 → ℕ) a ≤ S1024x5632.size a)
    (x : S512x256.Idx) (y : S512x2816.Idx) (h0 : (y 0 : ℕ) = x 0) (h1 : (y 1 : ℕ) = o + x 1) :
    k0_pay11 (F := Ideal) (k0_pay8 x0 x1) (View.ld x2 (Rect.unit ![0, o] ![1024, 256] i1)) (View.ld x2 (Rect.unit ![0, o'] ![1024, 256] i2)) x
      = hidV x0 x1 x2 y := by
  obtain ⟨p, q, rfl⟩ : ∃ (p : Fin 512) (q : Fin 256), x = (ix2 p q : S512x256.Idx) := ⟨x 0, x 1, by funext a; fin_cases a <;> rfl⟩
  have hy : p = y 0 := Fin.ext h0.symm
  rw [pay11_at]
  unfold hidV hid
  rw [← hy]
  congr 1
  · refine Finset.sum_congr rfl fun k _ => ?_
    rw [pay8_at]
    congr 1
    rw [View.ld_apply]
    congr 1
    funext a
    apply Fin.ext
    fin_cases a
    · simp [Rect.unit]
    · simp [Rect.unit, h1]
  · refine Finset.sum_congr rfl fun k _ => ?_
    rw [pay8_at]
    congr 1
    rw [View.ld_apply]
    congr 1
    funext a
    apply Fin.ext
    fin_cases a
    · simp [Rect.unit]
    · simp [Rect.unit, h1, ho']; omega

/-! The tiles are all the same computation. -/

theorem pay9_eq (x0 : Vec Ideal S512x1024 .f32) (x1 : Vec Ideal S1x1024 .f32) (u v : Vec Ideal S1024x256 .f32) :
    k0_pay10 (F := Ideal) (k0_pay9 x0 x1 u v) = k0_pay11 (k0_pay8 x0 x1) u v := rfl
section
variable (h : FVec Ideal S512x1024 .bf16) (u v : Vec Ideal S1024x256 .f32)
theorem pay16_eq : k0_pay16 (F := Ideal) (k0_pay12 h u) (k0_pay13 h v) (k0_pay14 h u) k0_pay15 = k0_pay11 h u v := rfl
theorem pay17_eq : k0_pay17 (F := Ideal) h u v = k0_pay11 h u v := rfl
theorem pay20_eq : k0_pay20 (F := Ideal) (k0_pay18 h u) (k0_pay19 h v) = k0_pay11 h u v := rfl
theorem pay21_eq : k0_pay21 (F := Ideal) h u v = k0_pay11 h u v := rfl
theorem pay23_eq : k0_pay23 (F := Ideal) h (k0_pay22 h u) v = k0_pay11 h u v := rfl
theorem pay24_eq : k0_pay24 (F := Ideal) h u v = k0_pay11 h u v := rfl
theorem pay25_eq : k0_pay25 (F := Ideal) h u v = k0_pay11 h u v := rfl
theorem pay27_eq : k0_pay27 (F := Ideal) (k0_pay26 h u v) = k0_pay11 h u v := rfl
theorem pay28_eq : k0_pay28 (F := Ideal) h u v = k0_pay11 h u v := rfl
end

/-- A column tile's rectangle holds the rows' whole columns from its offset on. -/
theorem mem_tile (o : ℕ) (i0 : ∀ a, (![0, o] : Fin 2 → ℕ) a + (![512, 256] : Fin 2 → ℕ) a ≤ S512x2816.size a) (y : S512x2816.Idx)
    (h : o ≤ (y 1 : ℕ) ∧ (y 1 : ℕ) < o + 256) : y ∈ (Rect.unit (s := S512x2816) ![0, o] ![512, 256] i0).set := by
  refine (Rect.unit (s := S512x2816) ![0, o] ![512, 256] i0).mem_set.mpr fun a => ?_
  fin_cases a
  · exact ⟨y 0, (y 0).isLt, by simp [Rect.unit]⟩
  · exact ⟨(y 1 : ℕ) - o, by show (y 1 : ℕ) - o < 256; omega, by show (y 1 : ℕ) = o + 1 * ((y 1 : ℕ) - o); omega⟩

theorem tile_emb (x0 : Vec Ideal S512x1024 .f32) (x1 : Vec Ideal S1x1024 .f32) (x2 : Vec Ideal S1024x5632 .f32) (o o' : ℕ) (ho' : o' = 2816 + o)
    (i0 : ∀ a, (![0, o] : Fin 2 → ℕ) a + (![512, 256] : Fin 2 → ℕ) a ≤ S512x2816.size a)
    (i1 : ∀ a, (![0, o] : Fin 2 → ℕ) a + (![1024, 256] : Fin 2 → ℕ) a ≤ S1024x5632.size a)
    (i2 : ∀ a, (![0, o'] : Fin 2 → ℕ) a + (![1024, 256] : Fin 2 → ℕ) a ≤ S1024x5632.size a)
    (x : (Rect.unit (s := S512x2816) ![0, o] ![512, 256] i0).shape.Idx) :
    k0_pay11 (F := Ideal) (k0_pay8 x0 x1) (View.ld x2 (Rect.unit ![0, o] ![1024, 256] i1)) (View.ld x2 (Rect.unit ![0, o'] ![1024, 256] i2)) x
      = hidV x0 x1 x2 ((Rect.unit (s := S512x2816) ![0, o] ![512, 256] i0).emb x) :=
  tile_at x0 x1 x2 o o' ho' i1 i2 x _ (by show 0 + 1 * (x 0 : ℕ) = x 0; omega) (by show o + 1 * (x 1 : ℕ) = o + x 1; omega)

variable (m : (ℓ : Loc nD τ sig) → Buf (Elt Ideal) ℓ)

theorem scratch (c : Dev nD) (t : Fin cfg0.N) (a : Fin 512) (b : Fin 1024) :
    out12 m c t (ix2 a b) = k0_pay29 (k0_pay7 (iblk m c 0 t)) (hidV (iblk m c 0 t) (iblk m c 1 t) (iblk m c 2 t)) (iblk m c 3 t) (ix2 a b) := by
  unfold out12 outRun12
  frame_out
  rw [View.readCov_eq_canon']
  simp only [pay9_eq, pay16_eq, pay17_eq, pay20_eq, pay21_eq, pay23_eq, pay24_eq, pay25_eq, pay27_eq, pay28_eq]
  refine congrArg (fun s => k0_pay29 (F := Ideal) _ s _ (ix2 a b)) ?_
  generalize iblk m c 0 t = x0, iblk m c 1 t = x1, iblk m c 2 t = x2
  refine (View.ld_unit_zero (S := S512x2816) (off := ![0, 0]) (by funext a; fin_cases a <;> rfl) inb_S512x2816_S512x2816_0_0 _).trans ?_
  funext y
  refine canon_step _ _ _ _ _ (tile_emb x0 x1 x2 2560 5376 rfl _ _ _) fun n10 => ?_
  refine canon_step _ _ _ _ _ (tile_emb x0 x1 x2 2304 5120 rfl _ _ _) fun n9 => ?_
  refine canon_step _ _ _ _ _ (tile_emb x0 x1 x2 2048 4864 rfl _ _ _) fun n8 => ?_
  refine canon_step _ _ _ _ _ (tile_emb x0 x1 x2 1792 4608 rfl _ _ _) fun n7 => ?_
  refine canon_step _ _ _ _ _ (tile_emb x0 x1 x2 1536 4352 rfl _ _ _) fun n6 => ?_
  refine canon_step _ _ _ _ _ (tile_emb x0 x1 x2 1280 4096 rfl _ _ _) fun n5 => ?_
  refine canon_step _ _ _ _ _ (tile_emb x0 x1 x2 1024 3840 rfl _ _ _) fun n4 => ?_
  refine canon_step _ _ _ _ _ (tile_emb x0 x1 x2 768 3584 rfl _ _ _) fun n3 => ?_
  refine canon_step _ _ _ _ _ (tile_emb x0 x1 x2 512 3328 rfl _ _ _) fun n2 => ?_
  refine canon_step _ _ _ _ _ (tile_emb x0 x1 x2 256 3072 rfl _ _ _) fun n1 => ?_
  refine canon_step _ _ _ _ _ (tile_emb x0 x1 x2 0 2816 rfl _ _ _) fun n0 => ?_
  have hy : (y 1 : ℕ) < 2816 := (y 1).isLt
  have m10 : ¬(2560 ≤ (y 1 : ℕ) ∧ (y 1 : ℕ) < 2560 + 256) := fun h => n10 (mem_tile 2560 _ y h)
  have m9 : ¬(2304 ≤ (y 1 : ℕ) ∧ (y 1 : ℕ) < 2304 + 256) := fun h => n9 (mem_tile 2304 _ y h)
  have m8 : ¬(2048 ≤ (y 1 : ℕ) ∧ (y 1 : ℕ) < 2048 + 256) := fun h => n8 (mem_tile 2048 _ y h)
  have m7 : ¬(1792 ≤ (y 1 : ℕ) ∧ (y 1 : ℕ) < 1792 + 256) := fun h => n7 (mem_tile 1792 _ y h)
  have m6 : ¬(1536 ≤ (y 1 : ℕ) ∧ (y 1 : ℕ) < 1536 + 256) := fun h => n6 (mem_tile 1536 _ y h)
  have m5 : ¬(1280 ≤ (y 1 : ℕ) ∧ (y 1 : ℕ) < 1280 + 256) := fun h => n5 (mem_tile 1280 _ y h)
  have m4 : ¬(1024 ≤ (y 1 : ℕ) ∧ (y 1 : ℕ) < 1024 + 256) := fun h => n4 (mem_tile 1024 _ y h)
  have m3 : ¬(768 ≤ (y 1 : ℕ) ∧ (y 1 : ℕ) < 768 + 256) := fun h => n3 (mem_tile 768 _ y h)
  have m2 : ¬(512 ≤ (y 1 : ℕ) ∧ (y 1 : ℕ) < 512 + 256) := fun h => n2 (mem_tile 512 _ y h)
  have m1 : ¬(256 ≤ (y 1 : ℕ) ∧ (y 1 : ℕ) < 256 + 256) := fun h => n1 (mem_tile 256 _ y h)
  have m0 : ¬(0 ≤ (y 1 : ℕ) ∧ (y 1 : ℕ) < 0 + 256) := fun h => n0 (mem_tile 0 _ y h)
  omega

/-- What a grid point leaves in its output block: row by row the half-step. -/
theorem point (c : Dev nD) (t : Fin cfg0.N) (a : Fin 512) (b : Fin 1024) :
    out12 m c t (ix2 a b) = half (fun k => iblk m c 0 t (ix2 a k)) (fun k => iblk m c 1 t (ix2 0 k)) (fun k f => iblk m c 2 t (ix2 k f)) (fun f j => iblk m c 3 t (ix2 f j)) b := by
  rw [scratch, pay29_at]
  unfold half
  simp only [pay7_at, hidV_at]

theorem idx : ∀ t : Fin cfg0.N, win0_0.index t = ![t.val, 0] ∧ win0_1.index t = ![0, 0] ∧ win0_2.index t = ![0, 0] ∧ win0_3.index t = ![0, 0]
    ∧ win0_12.index t = ![t.val, 0] := (by decide +kernel : ∀ t : Fin grid0.N, _)

/-- The whole output as mathematics over the four argument arrays. -/
def spec (X : Vec Ideal S4x4096x1024 .f32) (g : Vec Ideal S1x1024 .f32) (w : Vec Ideal S1x1024x5632 .f32) (o : Vec Ideal S1x2816x1024 .f32) :
    Vec Ideal S16384x1024 .f32 := fun i =>
  half (fun k => X (ix3 (⟨(i 0).val / 4096, by have h : (i 0).val < 16384 := (i 0).isLt; omega⟩ : Fin 4) (⟨(i 0).val % 4096, by omega⟩ : Fin 4096) k))
    (fun k => g (ix2 0 k)) (fun k f => w (ix3 0 k f)) (fun f j => o (ix3 0 f j)) (i 1)

theorem read0 (c : Dev nD) (t : Fin cfg0.N) (a : Fin 512) (k : Fin 1024) (j : S16384x1024.Idx) (hj : (j 0 : ℕ) = t.val * 512 + a.val) :
    (iblk m c 0 t (ix2 a k) : EReal) = m ((c : Thread nD τ).loc main_arg0) (ix3 (⟨(j 0).val / 4096, by have h : (j 0).val < 16384 := (j 0).isLt; omega⟩ : Fin 4) (⟨(j 0).val % 4096, by omega⟩ : Fin 4096) k) := by
  blk_point [iblk, V, idx t]

theorem read1 (c : Dev nD) (t : Fin cfg0.N) (k : Fin 1024) :
    (iblk m c 1 t (ix2 0 k) : EReal) = m ((c : Thread nD τ).loc main_arg1) (ix2 0 k) := by
  blk_point [iblk, V, idx t]

theorem read2 (c : Dev nD) (t : Fin cfg0.N) (k : Fin 1024) (f : Fin 5632) :
    (iblk m c 2 t (ix2 k f) : EReal) = m ((c : Thread nD τ).loc main_arg2) (ix3 0 k f) := by
  blk_point [iblk, V, idx t]

theorem read3 (c : Dev nD) (t : Fin cfg0.N) (f : Fin 2816) (j : Fin 1024) :
    (iblk m c 3 t (ix2 f j) : EReal) = m ((c : Thread nD τ).loc main_arg3) (ix3 0 f j) := by
  blk_point [iblk, V, idx t]

theorem final12 (c : Dev nD) : (dats m 0 c).arrAt 12 (cfgs 0).N
    = spec (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12]
  obtain ⟨a, b, rfl⟩ : ∃ (a : Fin 512) (b : Fin 1024), y = (ix2 a b : S512x1024.Idx) := ⟨y 0, y 1, by funext a; fin_cases a <;> rfl⟩
  refine (point m c t a b).trans ?_
  have e0 : ((((cfg0.win 12).blk t).view.emb (ix2 a b) 0 : Fin _) : ℕ) = t.val * 512 + a.val := by
    blk_simp [idx t]
  have e1 : (((cfg0.win 12).blk t).view.emb (ix2 a b) 1 : Fin _) = b := by
    apply Fin.ext
    blk_simp [idx t]
  change _ = half _ _ _ _ (((cfg0.win 12).blk t).view.emb (ix2 a b) 1)
  simp only [read1, read2, read3, fun k => read0 m c t a k (((cfg0.win 12).blk t).view.emb (ix2 a b)) e0]
  rw [e1]

end Cert.First
end
-- ==== Proof.FirstCast.lean ====
module

public import proofs.«01_k».proof.Proof.FirstVal

@[expose] public section
set_option maxRecDepth 16384
noncomputable section
open Idealize.ShloMosaic Idealize.ShloMosaic.TcCoe Idealize.SL.Sem
open Idealize.ShloMosaic.Pipeline (Dat)
namespace Cert.First
open Cert.Kernel3Ideal Cert.Kernel3Ideal.Gen

variable (m : (ℓ : Loc nD τ sig) → Buf (Elt Ideal) ℓ)

/-! ## The six weight arrays: each is a slice of a weight -/

theorem idxW : ∀ t : Fin cfg0.N, win0_5.index t = ![0, t.val, 0] ∧ win0_6.index t = ![0, 32 + t.val, 0] ∧ win0_7.index t = ![0, min (33 + t.val) 64, 0]
    ∧ win0_8.index t = ![0, 512, 0] ∧ win0_9.index t = ![t.val, 0] ∧ win0_10.index t = ![t.val, 0] ∧ win0_11.index t = ![min t.val 15, 0]
    ∧ win0_13.index t = ![0, t.val] ∧ win0_14.index t = ![0, t.val] ∧ win0_15.index t = ![0, 0] ∧ win0_16.index t = ![t.val, 0]
    ∧ win0_17.index t = ![t.val, 0] ∧ win0_18.index t = ![min t.val 15, 0] := (by decide +kernel : ∀ t : Fin grid0.N, _)

/-- The output projection of the mixer. -/
def spec16 (w : Vec Ideal S1x1024x1024 .f32) : Vec Ideal S1024x1024 .bf16 := fun i => w (ix3 0 (i 0) (i 1))
/-- The second feed-forward's input weights. -/
def spec17 (w : Vec Ideal S1x1024x5632 .f32) : Vec Ideal S1024x5632 .bf16 := fun i => w (ix3 0 (i 0) (i 1))
/-- The second feed-forward's output weights. -/
def spec18 (w : Vec Ideal S1x2816x1024 .f32) : Vec Ideal S2816x1024 .bf16 := fun i => w (ix3 0 (i 0) (i 1))
/-- The mixer's input weights: the columns before the gates', -/
def spec13 (w : Vec Ideal S1x1024x8200 .f32) : Vec Ideal S1024x4096 .bf16 := fun i =>
  w (ix3 0 (i 0) (⟨(i 1).val, by have h : (i 1).val < 4096 := (i 1).isLt; omega⟩ : Fin 8200))
/-- those after the gates', -/
def spec14 (w : Vec Ideal S1x1024x8200 .f32) : Vec Ideal S1024x4096 .bf16 := fun i =>
  w (ix3 0 (i 0) (⟨4104 + (i 1).val, by have h : (i 1).val < 4096 := (i 1).isLt; omega⟩ : Fin 8200))
/-- and the gates', zero columns after them. -/
def spec15 (w : Vec Ideal S1x1024x8200 .f32) : Vec Ideal S1024x128 .bf16 := fun i =>
  if h : (i 1).val < 8 then w (ix3 0 (i 0) (⟨4096 + (i 1).val, by omega⟩ : Fin 8200)) else 0

theorem point16 (c : Dev nD) (t : Fin cfg0.N) (a : Fin 32) (b : Fin 1024) : out16 m c t (ix2 a b) = iblk m c 9 t (ix2 a b) := by
  unfold out16 outRun16
  frame_out
  pointwise [k0_pay6]

theorem read9 (c : Dev nD) (t : Fin cfg0.N) (a : Fin 32) (k : Fin 1024) (j : S1024x1024.Idx) (h0 : (j 0 : ℕ) = t.val * 32 + a.val) (h1 : (j 1 : ℕ) = k.val) :
    (iblk m c 9 t (ix2 a k) : EReal) = m ((c : Thread nD τ).loc main_arg5) (ix3 0 (j 0) (j 1)) := by
  blk_point [iblk, V, idxW t]

theorem final16 (c : Dev nD) : (dats m 0 c).arrAt 16 (cfgs 0).N = spec16 (m ((c : Thread nD τ).loc main_arg5)) := by
  refine (dats m 0 c).arrAt_eq_of_covers 16 _ (by decide +kernel) fun t _ y => ?_
  blk_simp
  rw [after0_16]
  obtain ⟨a, b, rfl⟩ : ∃ (a : Fin 32) (b : Fin 1024), y = (ix2 a b : S32x1024.Idx) := ⟨y 0, y 1, by funext a; fin_cases a <;> rfl⟩
  refine (point16 m c t a b).trans ?_
  exact read9 m c t a b (((cfg0.win 16).blk t).view.emb (ix2 a b)) (by blk_simp [idxW t]) (by blk_simp [idxW t])

theorem point17 (c : Dev nD) (t : Fin cfg0.N) (a : Fin 32) (b : Fin 5632) : out17 m c t (ix2 a b) = iblk m c 10 t (ix2 a b) := by
  unfold out17 outRun17
  frame_out
  pointwise [k0_pay1]

theorem read10 (c : Dev nD) (t : Fin cfg0.N) (a : Fin 32) (k : Fin 5632) (j : S1024x5632.Idx) (h0 : (j 0 : ℕ) = t.val * 32 + a.val) (h1 : (j 1 : ℕ) = k.val) :
    (iblk m c 10 t (ix2 a k) : EReal) = m ((c : Thread nD τ).loc main_arg6) (ix3 0 (j 0) (j 1)) := by
  blk_point [iblk, V, idxW t]

theorem final17 (c : Dev nD) : (dats m 0 c).arrAt 17 (cfgs 0).N = spec17 (m ((c : Thread nD τ).loc main_arg6)) := by
  refine (dats m 0 c).arrAt_eq_of_covers 17 _ (by decide +kernel) fun t _ y => ?_
  blk_simp
  rw [after0_17]
  obtain ⟨a, b, rfl⟩ : ∃ (a : Fin 32) (b : Fin 5632), y = (ix2 a b : S32x5632.Idx) := ⟨y 0, y 1, by funext a; fin_cases a <;> rfl⟩
  refine (point17 m c t a b).trans ?_
  exact read10 m c t a b (((cfg0.win 17).blk t).view.emb (ix2 a b)) (by blk_simp [idxW t]) (by blk_simp [idxW t])

theorem point18 (c : Dev nD) (t : Fin cfg0.N) (a : Fin 176) (b : Fin 1024) : out18 m c t (ix2 a b) = iblk m c 11 t (ix2 a b) := by
  unfold out18 outRun18
  frame_out
  pointwise [k0_pay2]

theorem read11 (c : Dev nD) (t : Fin cfg0.N) (a : Fin 176) (k : Fin 1024) (j : S2816x1024.Idx) (h0 : (j 0 : ℕ) = min t.val 15 * 176 + a.val) (h1 : (j 1 : ℕ) = k.val) :
    (iblk m c 11 t (ix2 a k) : EReal) = m ((c : Thread nD τ).loc main_arg7) (ix3 0 (j 0) (j 1)) := by
  blk_point [iblk, V, idxW t]

theorem final18 (c : Dev nD) : (dats m 0 c).arrAt 18 (cfgs 0).N = spec18 (m ((c : Thread nD τ).loc main_arg7)) := by
  refine (dats m 0 c).arrAt_eq_of_covers 18 _ (by decide +kernel) fun t _ y => ?_
  blk_simp
  rw [after0_18]
  obtain ⟨a, b, rfl⟩ : ∃ (a : Fin 176) (b : Fin 1024), y = (ix2 a b : S176x1024.Idx) := ⟨y 0, y 1, by funext a; fin_cases a <;> rfl⟩
  refine (point18 m c t a b).trans ?_
  exact read11 m c t a b (((cfg0.win 18).blk t).view.emb (ix2 a b)) (by blk_simp [idxW t]) (by blk_simp [idxW t])

theorem X5_at (c : Dev nD) (t : Fin cfg0.N) (a : Fin 1024) (b : Fin 128) (j : S1024x4096.Idx) (h0 : (j 0 : ℕ) = a.val) (h1 : (j 1 : ℕ) = t.val * 128 + b.val) :
    (X0_5 m c t (ix3 0 b a) : EReal) = spec13 (m ((c : Thread nD τ).loc main_arg4)) j := by
  unfold X0_5 Pipeline.Window.fill spec13
  rw [dif_pos (moved0_5 t _)]
  blk_point [iblk, V, idxW t]

theorem point13 (c : Dev nD) (t : Fin cfg0.N) (a : Fin 1024) (b : Fin 128) : out13 m c t (ix2 a b) = X0_5 m c t (ix3 0 b a) := by
  unfold out13 outRun13
  frame_out
  generalize X0_5 m c t = x
  pointwise [k0_pay3]

theorem final13 (c : Dev nD) : (dats m 0 c).arrAt 13 (cfgs 0).N = spec13 (m ((c : Thread nD τ).loc main_arg4)) := by
  refine (dats m 0 c).arrAt_eq_of_covers 13 _ (by decide +kernel) fun t _ y => ?_
  blk_simp
  rw [after0_13]
  obtain ⟨a, b, rfl⟩ : ∃ (a : Fin 1024) (b : Fin 128), y = (ix2 a b : S1024x128.Idx) := ⟨y 0, y 1, by funext a; fin_cases a <;> rfl⟩
  refine (point13 m c t a b).trans ?_
  exact X5_at m c t a b (((cfg0.win 13).blk t).view.emb (ix2 a b)) (by blk_simp [idxW t]) (by blk_simp [idxW t])

theorem point15 (c : Dev nD) (t : Fin cfg0.N) (a : Fin 1024) (b : Fin 128) :
    out15 m c t (ix2 a b) = if h : b.val < 8 then (iblk m c 8 t (ix3 0 (⟨b.val, h⟩ : Fin 8) a) : EReal) else (0 : EReal) := by
  unfold out15 outRun15
  frame_out
  generalize iblk m c 8 t = x
  pointwise [k0_pay5]

theorem read8 (c : Dev nD) (t : Fin cfg0.N) (a : Fin 1024) (b : Fin 8) :
    (iblk m c 8 t (ix3 0 b a) : EReal) = m ((c : Thread nD τ).loc main_arg4) (ix3 0 a (⟨4096 + b.val, by omega⟩ : Fin 8200)) := by
  blk_point [iblk, V, idxW t]

theorem final15 (c : Dev nD) : (dats m 0 c).arrAt 15 (cfgs 0).N = spec15 (m ((c : Thread nD τ).loc main_arg4)) := by
  refine (dats m 0 c).arrAt_eq_of_covers 15 _ (by decide +kernel) fun t _ y => ?_
  blk_simp
  rw [after0_15]
  obtain ⟨a, b, rfl⟩ : ∃ (a : Fin 1024) (b : Fin 128), y = (ix2 a b : S1024x128.Idx) := ⟨y 0, y 1, by funext a; fin_cases a <;> rfl⟩
  refine (point15 m c t a b).trans ?_
  have e : ((cfg0.win 15).blk t).view.emb (ix2 a b) = (ix2 a b : S1024x128.Idx) := by
    funext k
    apply Fin.ext
    fin_cases k
    · blk_simp [idxW t]
    · blk_simp [idxW t]
  rw [e]
  unfold spec15
  show _ = if h : b.val < 8 then _ else _
  simp only [read8]
  rfl

theorem point14 (c : Dev nD) (t : Fin cfg0.N) (a : Fin 1024) (b : Fin 128) :
    out14 m c t (ix2 a b) = if h : b.val < 120 then X0_6 m c t (ix3 0 (⟨8 + b.val, by omega⟩ : Fin 128) a)
      else X0_7 m c t (ix3 0 (⟨b.val - 120, by omega⟩ : Fin 128) a) := by
  unfold out14 outRun14
  frame_out
  generalize X0_6 m c t = x, X0_7 m c t = y
  pointwise [k0_pay4]

theorem X6_at (c : Dev nD) (t : Fin cfg0.N) (a : Fin 1024) (b : Fin 128) (j : S1024x4096.Idx) (h0 : (j 0 : ℕ) = a.val) (h1 : (j 1 : ℕ) + 8 = t.val * 128 + b.val) :
    (X0_6 m c t (ix3 0 b a) : EReal) = spec14 (m ((c : Thread nD τ).loc main_arg4)) j := by
  unfold X0_6 Pipeline.Window.fill spec14
  rw [dif_pos (moved0_6 t _)]
  blk_point [iblk, V, idxW t]

theorem X7_at (c : Dev nD) (t : Fin cfg0.N) (a : Fin 1024) (b : Fin 128) (hb : b.val < 8) (j : S1024x4096.Idx) (h0 : (j 0 : ℕ) = a.val) (h1 : (j 1 : ℕ) = t.val * 128 + 120 + b.val) :
    (X0_7 m c t (ix3 0 b a) : EReal) = spec14 (m ((c : Thread nD τ).loc main_arg4)) j := by
  have ht : t.val < 32 := t.isLt
  unfold X0_7 Pipeline.Window.fill spec14
  rw [dif_pos (moved7 t _ hb)]
  blk_point [iblk, V, idxW t]

theorem final14 (c : Dev nD) : (dats m 0 c).arrAt 14 (cfgs 0).N = spec14 (m ((c : Thread nD τ).loc main_arg4)) := by
  refine (dats m 0 c).arrAt_eq_of_covers 14 _ (by decide +kernel) fun t _ y => ?_
  blk_simp
  rw [after0_14]
  obtain ⟨a, b, rfl⟩ : ∃ (a : Fin 1024) (b : Fin 128), y = (ix2 a b : S1024x128.Idx) := ⟨y 0, y 1, by funext a; fin_cases a <;> rfl⟩
  refine (point14 m c t a b).trans ?_
  have e0 : ((((cfg0.win 14).blk t).view.emb (ix2 a b) 0 : Fin _) : ℕ) = a.val := by blk_simp [idxW t]
  have e1 : ((((cfg0.win 14).blk t).view.emb (ix2 a b) 1 : Fin _) : ℕ) = t.val * 128 + b.val := by blk_simp [idxW t]
  split
  · exact X6_at m c t a _ (((cfg0.win 14).blk t).view.emb (ix2 a b)) e0 ((congrArg (· + 8) e1).trans (by show t.val * 128 + b.val + 8 = t.val * 128 + (8 + b.val); omega))
  · have hb := b.isLt
    exact X7_at m c t a _ (by show b.val - 120 < 8; omega) (((cfg0.win 14).blk t).view.emb (ix2 a b)) e0 (e1.trans (by show t.val * 128 + b.val = t.val * 128 + 120 + (b.val - 120); omega))

end Cert.First
end
-- ==== Proof.FirstRef.lean ====
module

public import proofs.«01_k».proof.Proof.FirstCast

@[expose] public section
set_option maxRecDepth 16384
noncomputable section
open Idealize.ShloMosaic Idealize.ShloMosaic.TcCoe Idealize.SL.Sem
namespace Cert.First
open Cert.Ffn (nrm act hid half)
open Cert.Reference3Ideal Cert.Reference3Ideal.Gen Cert.Reference3Ideal.Read

section
variable (x0 : FVec Ideal S4x4096x1024 .f32) (x1 : FVec Ideal S1x1024 .f32) (x2 : FVec Ideal S1x1024x5632 .f32) (x3 : FVec Ideal S1x2816x1024 .f32)
  (p : Fin 4) (q : Fin 4096)

theorem r13 (k : Fin 1024) : val_main_v13 (F := Ideal) x0 x1 (ix3 p q k) = nrm (fun k => x0 (ix3 p q k)) (fun k => x1 (ix2 0 k)) k := by
  unfold nrm
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem r16 (f : Fin 5632) : val_main_v16 (F := Ideal) x0 x1 x2 (ix3 p q f) = ∑ k, nrm (fun k => x0 (ix3 p q k)) (fun k => x1 (ix2 0 k)) k * x2 (ix3 0 k f) := by
  pointwise [val_main_v16, val_main_v14]
  simp only [r13]

theorem r20 (f : Fin 2816) : val_main_v20 (F := Ideal) x0 x1 x2 (ix3 p q f) = hid (fun k => x0 (ix3 p q k)) (fun k => x1 (ix2 0 k)) (fun k f => x2 (ix3 0 k f)) f := by
  unfold hid act
  pointwise [val_main_v20, val_main_v19, val_main_call0_v5, val_main_call0_v4, val_main_call0_cst_0, val_main_call0_v3, val_main_call0_v2, val_main_call0_cst, val_main_call0_v1, val_main_call0_v0, val_main_v18, val_main_v17]
  simp only [r16]

theorem r24 (j : Fin 1024) : val_main_v24 (F := Ideal) x0 x1 x2 x3 (ix3 p q j) = half (fun k => x0 (ix3 p q k)) (fun k => x1 (ix2 0 k)) (fun k f => x2 (ix3 0 k f)) (fun f j => x3 (ix3 0 f j)) j := by
  unfold half
  pointwise [val_main_v24, val_main_v23, val_main_v22, val_main_v21, val_main_cst_2, val_main_v15]
  simp only [r20]

theorem r29 : val_main_v29 (F := Ideal) x0 x1 x2 x3 = spec x0 x1 x2 x3 := by
  funext i
  rw [val_main_v29_apply]
  have h0 : (i 0).val < 16384 := (i 0).isLt
  have h1 : (i 1).val < 1024 := (i 1).isLt
  have hi : idx_main_v29 i = ix3 (⟨(i 0).val / 4096, by omega⟩ : Fin 4) (⟨(i 0).val % 4096, by omega⟩ : Fin 4096) (i 1) := by
    funext a
    apply Fin.ext
    fin_cases a
    · show ((i 0).val * 1024 + (i 1).val) / 4194304 = (i 0).val / 4096; omega
    · show ((i 0).val * 1024 + (i 1).val) / 1024 % 4096 = (i 0).val % 4096; omega
    · show ((i 0).val * 1024 + (i 1).val) % 1024 = (i 1).val; omega
  rw [hi]
  exact r24 x0 x1 x2 x3 _ _ _
end

/-! ## The weights -/

theorem r30 (w : FVec Ideal S1x1024x8200 .f32) : val_main_v30 (F := Ideal) w = spec13 w := by
  funext i
  obtain ⟨a, b, rfl⟩ : ∃ (a : Fin 1024) (b : Fin 4096), i = (ix2 a b : S1024x4096.Idx) := ⟨i 0, i 1, by funext a; fin_cases a <;> rfl⟩
  unfold spec13
  pointwise [val_main_v30, val_main_v26, val_main_v25]

theorem r31 (w : FVec Ideal S1x1024x8200 .f32) : val_main_v31 (F := Ideal) w = spec14 w := by
  funext i
  obtain ⟨a, b, rfl⟩ : ∃ (a : Fin 1024) (b : Fin 4096), i = (ix2 a b : S1024x4096.Idx) := ⟨i 0, i 1, by funext a; fin_cases a <;> rfl⟩
  unfold spec14
  pointwise [val_main_v31, val_main_v26, val_main_v25]

theorem r28 (w : FVec Ideal S1x1024x8200 .f32) : val_main_v28 (F := Ideal) w = spec15 w := by
  funext i
  obtain ⟨a, b, rfl⟩ : ∃ (a : Fin 1024) (b : Fin 128), i = (ix2 a b : S1024x128.Idx) := ⟨i 0, i 1, by funext a; fin_cases a <;> rfl⟩
  unfold spec15
  pointwise [val_main_v28, val_main_v27, val_main_v26, val_main_v25, val_main_call1_v0, val_main_c]
  refine dite_congr rfl (fun _ => rfl) fun _ => ?_
  show ((((0#32 : BitVec 32).toInt : ℝ)) : EReal) = 0
  simp

theorem r33 (w : FVec Ideal S1x1024x1024 .f32) : val_main_v33 (F := Ideal) w = spec16 w := by
  funext i
  obtain ⟨a, b, rfl⟩ : ∃ (a : Fin 1024) (b : Fin 1024), i = (ix2 a b : S1024x1024.Idx) := ⟨i 0, i 1, by funext a; fin_cases a <;> rfl⟩
  unfold spec16
  pointwise [val_main_v33, val_main_v32]

theorem r35 (w : FVec Ideal S1x1024x5632 .f32) : val_main_v35 (F := Ideal) w = spec17 w := by
  funext i
  obtain ⟨a, b, rfl⟩ : ∃ (a : Fin 1024) (b : Fin 5632), i = (ix2 a b : S1024x5632.Idx) := ⟨i 0, i 1, by funext a; fin_cases a <;> rfl⟩
  unfold spec17
  pointwise [val_main_v35, val_main_v34]

theorem r37 (w : FVec Ideal S1x2816x1024 .f32) : val_main_v37 (F := Ideal) w = spec18 w := by
  funext i
  obtain ⟨a, b, rfl⟩ : ∃ (a : Fin 2816) (b : Fin 1024), i = (ix2 a b : S2816x1024.Idx) := ⟨i 0, i 1, by funext a; fin_cases a <;> rfl⟩
  unfold spec18
  pointwise [val_main_v37, val_main_v36]

/-- The first feed-forward's whole call: kernel and reference leave the same half-step and the same six weight arrays. -/
theorem algebraic : Cert.algebraic_Kernel3Ideal_Reference3Ideal := by
  intro m g m' g' _ hagree
  refine ⟨fun c => spec (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => spec13 (m ((c.tc : Thread Cert.Kernel3Ideal.nD Cert.Kernel3Ideal.τ).loc Cert.Kernel3Ideal.main_arg4)),
    fun c => spec14 (m ((c.tc : Thread Cert.Kernel3Ideal.nD Cert.Kernel3Ideal.τ).loc Cert.Kernel3Ideal.main_arg4)),
    fun c => spec15 (m ((c.tc : Thread Cert.Kernel3Ideal.nD Cert.Kernel3Ideal.τ).loc Cert.Kernel3Ideal.main_arg4)),
    fun c => spec16 (m ((c.tc : Thread Cert.Kernel3Ideal.nD Cert.Kernel3Ideal.τ).loc Cert.Kernel3Ideal.main_arg5)),
    fun c => spec17 (m ((c.tc : Thread Cert.Kernel3Ideal.nD Cert.Kernel3Ideal.τ).loc Cert.Kernel3Ideal.main_arg6)),
    fun c => spec18 (m ((c.tc : Thread Cert.Kernel3Ideal.nD Cert.Kernel3Ideal.τ).loc Cert.Kernel3Ideal.main_arg7)), ?_, ?_⟩
  · refine (θ_run Cert.Kernel3Ideal.defs _ _).mono (fun r h c => ?_) (run_at m g)
    obtain ⟨k0, k1, k2, k3, k4, k5, k6, ka⟩ := h.1 c
    exact ⟨k0.trans (final12 m c), k1.trans (final13 m c), k2.trans (final14 m c), k3.trans (final15 m c), k4.trans (final16 m c),
      k5.trans (final17 m c), k6.trans (final18 m c), ka⟩
  · refine (θ_run Cert.Reference3Ideal.defs _ _).mono (fun r h c => ?_) (Cert.Reference3Ideal.Value.run (F := Ideal) m' g')
    obtain ⟨k0, k1, k2, k3, k4, k5, k6, ka⟩ := h c
    obtain ⟨h0, h1, h2, h3, h4, h5, h6, h7, _⟩ := hagree c
    refine ⟨k0.trans ((val_main_v29_eq _ _ _ _).trans ((r29 _ _ _ _).trans ?_)),
      k1.trans ((val_main_v30_eq _).trans ((r30 _).trans (congrArg spec13 h4))),
      k2.trans ((val_main_v31_eq _).trans ((r31 _).trans (congrArg spec14 h4))),
      k3.trans ((val_main_v28_eq _).trans ((r28 _).trans (congrArg spec15 h4))),
      k4.trans ((val_main_v33_eq _).trans ((r33 _).trans (congrArg spec16 h5))),
      k5.trans ((val_main_v35_eq _).trans ((r35 _).trans (congrArg spec17 h6))),
      k6.trans ((val_main_v37_eq _).trans ((r37 _).trans (congrArg spec18 h7))), ka⟩
    exact congr (congr (congr (congrArg spec h0) h1) h2) h3

end Cert.First
end
-- ==== Proof.FirstSame.lean ====
module

public import proofs.«01_k».proof.Defs
public import proofs.«01_k».proof.Proof.Gen.Kernel3
public import proofs.«01_k».proof.Proof.Gen.Kernel3Ideal
public import Idealize.ShloMosaic.Adequacy
public import Idealize.ShloMosaic.Init

@[expose] public section
noncomputable section
namespace Cert.First.Same
open Idealize.ShloMosaic Idealize.SL.Sem

set_option maxHeartbeats 40000000
set_option maxRecDepth 100000

/-- The two first feed-forward programs have the same text: their body tables are equal. -/
theorem defs_eq : (Cert.Kernel3.defs₀ (F := Bits) : Defs Cert.Kernel3Ideal.nD Cert.Kernel3Ideal.τ Cert.Kernel3Ideal.sig (Elt Bits) Cert.Kernel3Ideal.Λ₀) = Cert.Kernel3Ideal.defs₀ (F := Bits)  := by
  funext p ℓ a
  match p with
  | .tc =>
    match ℓ, a with
    | 0, (t, s) =>
      show Cert.Kernel3.cc0_ffn_cast (F := Bits) _ _ _ _ _ _ _ _ _ _ _ _ _ _ _ _ _ _ _ _ _ _ _ _ _ _ _ _ _ _ _ _ _ _ _ _ _ _ _ _ _ = Cert.Kernel3Ideal.cc0_ffn_cast (F := Bits) _ _ _ _ _ _ _ _ _ _ _ _ _ _ _ _ _ _ _ _ _ _ _ _ _ _ _ _ _ _ _ _ _ _ _ _ _ _ _ _ _
      rfl
  | .scScalar _ => rfl
  | .scVector _ _ => rfl
/-- So a run of the one is a run of the other. -/
theorem run_of (m ρ) (Q) (h : θ_run (Cert.Kernel3Ideal.defs (F := Bits)) (onTc Cert.Kernel3Ideal.main) { mem := m, sem := fun _ => 0, prng := ρ } Q) : θ_run (Cert.Kernel3.defs (F := Bits)) (onTc Cert.Kernel3.main) { mem := m, sem := fun _ => 0, prng := ρ } Q := by
  have h' : θ_run (Pipeline.defs (Cert.Kernel3Ideal.pcfgs (F := Bits)) (Cert.Kernel3.defs₀ (F := Bits) : Defs Cert.Kernel3Ideal.nD Cert.Kernel3Ideal.τ Cert.Kernel3Ideal.sig (Elt Bits) Cert.Kernel3Ideal.Λ₀)) (onTc Cert.Kernel3Ideal.main) { mem := m, sem := fun _ => 0, prng := ρ } Q := by rw [defs_eq]; exact h
  exact h'
end Cert.First.Same
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Frames
public import proofs.«01_k».proof.Proof.RefFrame
public import proofs.«01_k».proof.Proof.Same
public import proofs.«01_k».proof.Proof.Ffn
public import proofs.«01_k».proof.Proof.FfnRef
public import proofs.«01_k».proof.Proof.FirstRef
public import proofs.«01_k».proof.Proof.FirstSame
public import Idealize.ShloMosaic.Adequacy
public import Idealize.ShloMosaic.Init

@[expose] public section

noncomputable section

namespace Cert.Proof

open Idealize.ShloMosaic Idealize.SL.Sem

/-- The mixer call runs and leaves its arguments as they were: the run of the idealized program at bit patterns, which is the same text. -/
theorem frame_kernel : Cert.quiescent_Kernel := fun m ρ _ =>
  Cert.Same.run_of m ρ _ (Cert.Mixer.frame_any (F := Bits) m ρ)

theorem frame_kernel_ideal : Cert.quiescent_KernelIdeal := fun m ρ _ => Cert.Mixer.frame_any (F := Ideal) m ρ

theorem frame_reference_ideal : Cert.quiescent_ReferenceIdeal := fun m ρ _ => Cert.Mixer.Ref.frame (F := Ideal) m ρ

theorem frame_kernel2 : Cert.quiescent_Kernel2 := fun m ρ _ => Cert.Kernel2.Gen.frame m ρ

theorem frame_kernel2_ideal : Cert.quiescent_Kernel2Ideal := fun m ρ _ => Cert.Kernel2Ideal.Gen.frame m ρ

theorem frame_reference2_ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The first feed-forward's call: the run of the idealized program at bit patterns, which is the same text. -/
theorem frame_kernel3 : Cert.quiescent_Kernel3 := fun m ρ _ =>
  Cert.First.Same.run_of m ρ _ ((θ_run Cert.Kernel3Ideal.defs _ _).mono (fun r h => ⟨fun c => (h.1 c).2.2.2.2.2.2.2, h.2⟩) (Cert.First.run_at (F := Bits) m ρ))

theorem frame_kernel3_ideal : Cert.quiescent_Kernel3Ideal := fun m ρ _ =>
  (θ_run Cert.Kernel3Ideal.defs _ _).mono (fun r h => ⟨fun c => (h.1 c).2.2.2.2.2.2.2, h.2⟩) (Cert.First.run_at (F := Ideal) m ρ)

theorem frame_reference3_ideal : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  frame_kernel, frame_kernel_ideal, frame_reference_ideal, frame_kernel2, frame_kernel2_ideal, frame_reference2_ideal,
  frame_kernel3, frame_kernel3_ideal, frame_reference3_ideal, trivial, trivial, Cert.Ffn.algebraic, trivial, Cert.First.algebraic⟩

end Cert.Proof

end
